-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x50 : Shape := ⟨2, ![16384, 50]⟩
abbrev S1000000x32 : Shape := ⟨2, ![1000000, 32]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn {F : FTy → Type} [FloatOps F] (main_arg0 : IVec S16384x50 32) (main_arg1 : FVec F S1000000x32 .f32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg0 main_v0
  let main_c_0 : IVec S_ 1 := constantI S_ 1 1#1
  let main_v2 : IVec S_ 1 := (fun x v => Host.reduce IntOp.andi x v reducesTo_S16384x50_S_d0_1 h_S_) main_v1 main_c_0
  let main_c_1 : IVec S_ 32 := constantI S_ 32 1000000#32
  let main_v3 : IVec S16384x50 32 := broadcastInDim S16384x50 ![] bcast_S_S16384x50 main_c_1
  let main_v4 : IVec S16384x50 1 := cmpi .slt main_arg0 main_v3
  let main_c_2 : IVec S_ 1 := constantI S_ 1 1#1
  let main_v5 : IVec S_ 1 := (fun x v => Host.reduce IntOp.andi x v reducesTo_S16384x50_S_d0_1 h_S_) main_v4 main_c_2
  let main_v6 : IVec S_ 1 := andi main_v2 main_v5
  main_v6
-- ==== Kernel.lean ====
abbrev S16384x50 : Shape := ⟨2, ![16384, 50]⟩
abbrev S1000000x32 : Shape := ⟨2, ![1000000, 32]⟩
abbrev S50x16384 : Shape := ⟨2, ![50, 16384]⟩
abbrev S50x32x512 : Shape := ⟨3, ![50, 32, 512]⟩
abbrev S_ : Shape := ⟨0, ![]⟩
abbrev S1000000x128 : Shape := ⟨2, ![1000000, 128]⟩
abbrev S819200x128 : Shape := ⟨2, ![819200, 128]⟩
abbrev S50x512 : Shape := ⟨2, ![50, 512]⟩
abbrev S5x512x128 : Shape := ⟨3, ![5, 512, 128]⟩
abbrev S5 : Shape := ⟨1, ![5]⟩
abbrev S50x1x512 : Shape := ⟨3, ![50, 1, 512]⟩
abbrev S1x512x128 : Shape := ⟨3, ![1, 512, 128]⟩
abbrev S512x128 : Shape := ⟨2, ![512, 128]⟩
abbrev S1x512 : Shape := ⟨2, ![1, 512]⟩
abbrev S512 : Shape := ⟨1, ![512]⟩
abbrev S1 : Shape := ⟨1, ![1]⟩
abbrev S819200x32 : Shape := ⟨2, ![819200, 32]⟩
abbrev S50x16384x32 : Shape := ⟨3, ![50, 16384, 32]⟩
abbrev S16384x50x32 : Shape := ⟨3, ![16384, 50, 32]⟩

abbrev nBuf : Table → Nat
  | .hbm => 11
  | .local .scVector .vmem => 2
  | _ => 0

abbrev bufTy : (tb : Table) → Fin (nBuf tb) → BufTy
  | .hbm, ⟨0, _⟩ => ⟨S16384x50, .i32⟩
  | .hbm, ⟨1, _⟩ => ⟨S1000000x32, .f32⟩
  | .hbm, ⟨2, _⟩ => ⟨S50x16384, .i32⟩
  | .hbm, ⟨3, _⟩ => ⟨S50x32x512, .i32⟩
  | .hbm, ⟨4, _⟩ => ⟨S_, .i32⟩
  | .hbm, ⟨5, _⟩ => ⟨S_, .f32⟩
  | .hbm, ⟨6, _⟩ => ⟨S1000000x128, .f32⟩
  | .hbm, ⟨7, _⟩ => ⟨S819200x128, .f32⟩
  | .hbm, ⟨8, _⟩ => ⟨S819200x32, .f32⟩
  | .hbm, ⟨9, _⟩ => ⟨S50x16384x32, .f32⟩
  | .hbm, ⟨10, _⟩ => ⟨S16384x50x32, .f32⟩
  | .local .scVector .vmem, ⟨0, _⟩ => ⟨S50x512, .i32⟩
  | .local .scVector .vmem, ⟨1, _⟩ => ⟨S5x512x128, .f32⟩
  | _, _ => ⟨S16384x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v1_scv : Ref sig .scVector := ⟨.hbm, 3, rfl⟩
abbrev main_v2_scv : Ref sig .scVector := ⟨.hbm, 6, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c0_i32_75_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_76_r0 : BitVec 32 := 0#32
  ![0, v1.toNat, 0]
@[reducible] def k0_t1_loop : Scf.Loop 32 :=
  let c0_i32_29 : BitVec 32 := 0#32
  let c10_i32 : BitVec 32 := 10#32
  let v30 : BitVec 32 := Scalar.addi c0_i32_29 c10_i32
  let c1_i32_30 : BitVec 32 := 1#32
  ⟨c0_i32_29, v30, c1_i32_30⟩
def k0_cond1 (k0_t1 : Fin k0_t1_loop.trips) : BitVec 1 :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c0_i32_76 : BitVec 32 := 0#32
  let v83 : BitVec 32 := Scalar.addi v82 c0_i32_76
  let c5_i32_77 : BitVec 32 := 5#32
  let v84 : BitVec 32 := Scalar.addi v83 c5_i32_77
  let c1_i32_78 : BitVec 32 := 1#32
  let v85 : BitVec 32 := Scalar.subi v84 c1_i32_78
  let c50_i32 : BitVec 32 := 50#32
  let v86 : BitVec 1 := Scalar.cmpi .slt v85 c50_i32
  let v87 : BitVec 32 := Scalar.extui v86
  let c0_i32_79 : BitVec 32 := 0#32
  let v88 : BitVec 1 := Scalar.cmpi .ne v87 c0_i32_79
  v88

def k0_cond2 (k0_t1 : Fin k0_t1_loop.trips) : BitVec 1 :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c0_i32_76 : BitVec 32 := 0#32
  let v83 : BitVec 32 := Scalar.addi v82 c0_i32_76
  let c5_i32_77 : BitVec 32 := 5#32
  let v84 : BitVec 32 := Scalar.addi v83 c5_i32_77
  let c1_i32_78 : BitVec 32 := 1#32
  let v85 : BitVec 32 := Scalar.subi v84 c1_i32_78
  let c5_i32_189 : BitVec 32 := 5#32
  let v208 : BitVec 1 := Scalar.cmpi .sge v85 c5_i32_189
  let v209 : BitVec 32 := Scalar.extui v208
  let c0_i32_190 : BitVec 32 := 0#32
  let v210 : BitVec 1 := Scalar.cmpi .ne v209 c0_i32_190
  v210

def k0_off2 (i : grid0.Coords) (k0_t1 : Fin k0_t1_loop.trips) : Fin 2 → Nat :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c0_i32_76 : BitVec 32 := 0#32
  let v83 : BitVec 32 := Scalar.addi v82 c0_i32_76
  let c5_i32_77 : BitVec 32 := 5#32
  let v84 : BitVec 32 := Scalar.addi v83 c5_i32_77
  let c1_i32_78 : BitVec 32 := 1#32
  let v85 : BitVec 32 := Scalar.subi v84 c1_i32_78
  let c5_i32_198 : BitVec 32 := 5#32
  let v218 : BitVec 32 := Scalar.subi v85 c5_i32_198
  let c32_i32_199 : BitVec 32 := 32#32
  let v219 : BitVec 32 := Scalar.muli v218 c32_i32_199
  let c512_i32_200 : BitVec 32 := 512#32
  let v220 : BitVec 32 := Scalar.muli v219 c512_i32_200
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_201 : BitVec 32 := 512#32
  let v221 : BitVec 32 := Scalar.muli v1 c512_i32_201
  let v222 : BitVec 32 := Scalar.addi v220 v221
  let c0_i32_206 : BitVec 32 := 0#32
  ![v222.toNat, 0]
def k0_off3 (k0_t1 : Fin k0_t1_loop.trips) : Fin 2 → Nat :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c0_i32_76 : BitVec 32 := 0#32
  let v83 : BitVec 32 := Scalar.addi v82 c0_i32_76
  let c5_i32_77 : BitVec 32 := 5#32
  let v84 : BitVec 32 := Scalar.addi v83 c5_i32_77
  let c1_i32_78 : BitVec 32 := 1#32
  let v85 : BitVec 32 := Scalar.subi v84 c1_i32_78
  let c0_i32_195 : BitVec 32 := 0#32
  ![v85.toNat, 0]
def k0_off4 (k0_t1 : Fin k0_t1_loop.trips) (c0_i32_76 : BitVec 32) : Fin 2 → Nat :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let v83 : BitVec 32 := Scalar.addi v82 c0_i32_76
  let c0_i32_84 : BitVec 32 := 0#32
  ![v83.toNat, 0]
def k0_off5 (i : grid0.Coords) (k0_t1 : Fin k0_t1_loop.trips) (c0_i32_76 : BitVec 32) : Fin 2 → Nat :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let v83 : BitVec 32 := Scalar.addi v82 c0_i32_76
  let c32_i32 : BitVec 32 := 32#32
  let v96 : BitVec 32 := Scalar.muli v83 c32_i32
  let c512_i32_87 : BitVec 32 := 512#32
  let v97 : BitVec 32 := Scalar.muli v96 c512_i32_87
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_88 : BitVec 32 := 512#32
  let v98 : BitVec 32 := Scalar.muli v1 c512_i32_88
  let v99 : BitVec 32 := Scalar.addi v97 v98
  let c0_i32_93 : BitVec 32 := 0#32
  ![v99.toNat, 0]
def k0_cond3 (k0_t1 : Fin k0_t1_loop.trips) : BitVec 1 :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c1_i32_97 : BitVec 32 := 1#32
  let v108 : BitVec 32 := Scalar.addi v82 c1_i32_97
  let c5_i32_98 : BitVec 32 := 5#32
  let v109 : BitVec 32 := Scalar.addi v108 c5_i32_98
  let c1_i32_99 : BitVec 32 := 1#32
  let v110 : BitVec 32 := Scalar.subi v109 c1_i32_99
  let c50_i32_100 : BitVec 32 := 50#32
  let v111 : BitVec 1 := Scalar.cmpi .slt v110 c50_i32_100
  let v112 : BitVec 32 := Scalar.extui v111
  let c0_i32_101 : BitVec 32 := 0#32
  let v113 : BitVec 1 := Scalar.cmpi .ne v112 c0_i32_101
  v113

def k0_cond4 (k0_t1 : Fin k0_t1_loop.trips) : BitVec 1 :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c1_i32_97 : BitVec 32 := 1#32
  let v108 : BitVec 32 := Scalar.addi v82 c1_i32_97
  let c5_i32_98 : BitVec 32 := 5#32
  let v109 : BitVec 32 := Scalar.addi v108 c5_i32_98
  let c1_i32_99 : BitVec 32 := 1#32
  let v110 : BitVec 32 := Scalar.subi v109 c1_i32_99
  let c5_i32_189 : BitVec 32 := 5#32
  let v208 : BitVec 1 := Scalar.cmpi .sge v110 c5_i32_189
  let v209 : BitVec 32 := Scalar.extui v208
  let c0_i32_190 : BitVec 32 := 0#32
  let v210 : BitVec 1 := Scalar.cmpi .ne v209 c0_i32_190
  v210

def k0_off6 (i : grid0.Coords) (k0_t1 : Fin k0_t1_loop.trips) : Fin 2 → Nat :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c1_i32_97 : BitVec 32 := 1#32
  let v108 : BitVec 32 := Scalar.addi v82 c1_i32_97
  let c5_i32_98 : BitVec 32 := 5#32
  let v109 : BitVec 32 := Scalar.addi v108 c5_i32_98
  let c1_i32_99 : BitVec 32 := 1#32
  let v110 : BitVec 32 := Scalar.subi v109 c1_i32_99
  let c5_i32_198 : BitVec 32 := 5#32
  let v218 : BitVec 32 := Scalar.subi v110 c5_i32_198
  let c32_i32_199 : BitVec 32 := 32#32
  let v219 : BitVec 32 := Scalar.muli v218 c32_i32_199
  let c512_i32_200 : BitVec 32 := 512#32
  let v220 : BitVec 32 := Scalar.muli v219 c512_i32_200
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_201 : BitVec 32 := 512#32
  let v221 : BitVec 32 := Scalar.muli v1 c512_i32_201
  let v222 : BitVec 32 := Scalar.addi v220 v221
  let c0_i32_206 : BitVec 32 := 0#32
  ![v222.toNat, 0]
def k0_off7 (k0_t1 : Fin k0_t1_loop.trips) : Fin 2 → Nat :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c1_i32_97 : BitVec 32 := 1#32
  let v108 : BitVec 32 := Scalar.addi v82 c1_i32_97
  let c5_i32_98 : BitVec 32 := 5#32
  let v109 : BitVec 32 := Scalar.addi v108 c5_i32_98
  let c1_i32_99 : BitVec 32 := 1#32
  let v110 : BitVec 32 := Scalar.subi v109 c1_i32_99
  let c0_i32_195 : BitVec 32 := 0#32
  ![v110.toNat, 0]
def k0_cond5 (k0_t1 : Fin k0_t1_loop.trips) : BitVec 1 :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c2_i32_120 : BitVec 32 := 2#32
  let v133 : BitVec 32 := Scalar.addi v82 c2_i32_120
  let c5_i32_121 : BitVec 32 := 5#32
  let v134 : BitVec 32 := Scalar.addi v133 c5_i32_121
  let c1_i32_122 : BitVec 32 := 1#32
  let v135 : BitVec 32 := Scalar.subi v134 c1_i32_122
  let c50_i32_123 : BitVec 32 := 50#32
  let v136 : BitVec 1 := Scalar.cmpi .slt v135 c50_i32_123
  let v137 : BitVec 32 := Scalar.extui v136
  let c0_i32_124 : BitVec 32 := 0#32
  let v138 : BitVec 1 := Scalar.cmpi .ne v137 c0_i32_124
  v138

def k0_cond6 (k0_t1 : Fin k0_t1_loop.trips) : BitVec 1 :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c2_i32_120 : BitVec 32 := 2#32
  let v133 : BitVec 32 := Scalar.addi v82 c2_i32_120
  let c5_i32_121 : BitVec 32 := 5#32
  let v134 : BitVec 32 := Scalar.addi v133 c5_i32_121
  let c1_i32_122 : BitVec 32 := 1#32
  let v135 : BitVec 32 := Scalar.subi v134 c1_i32_122
  let c5_i32_189 : BitVec 32 := 5#32
  let v208 : BitVec 1 := Scalar.cmpi .sge v135 c5_i32_189
  let v209 : BitVec 32 := Scalar.extui v208
  let c0_i32_190 : BitVec 32 := 0#32
  let v210 : BitVec 1 := Scalar.cmpi .ne v209 c0_i32_190
  v210

def k0_off8 (i : grid0.Coords) (k0_t1 : Fin k0_t1_loop.trips) : Fin 2 → Nat :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c2_i32_120 : BitVec 32 := 2#32
  let v133 : BitVec 32 := Scalar.addi v82 c2_i32_120
  let c5_i32_121 : BitVec 32 := 5#32
  let v134 : BitVec 32 := Scalar.addi v133 c5_i32_121
  let c1_i32_122 : BitVec 32 := 1#32
  let v135 : BitVec 32 := Scalar.subi v134 c1_i32_122
  let c5_i32_198 : BitVec 32 := 5#32
  let v218 : BitVec 32 := Scalar.subi v135 c5_i32_198
  let c32_i32_199 : BitVec 32 := 32#32
  let v219 : BitVec 32 := Scalar.muli v218 c32_i32_199
  let c512_i32_200 : BitVec 32 := 512#32
  let v220 : BitVec 32 := Scalar.muli v219 c512_i32_200
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_201 : BitVec 32 := 512#32
  let v221 : BitVec 32 := Scalar.muli v1 c512_i32_201
  let v222 : BitVec 32 := Scalar.addi v220 v221
  let c0_i32_206 : BitVec 32 := 0#32
  ![v222.toNat, 0]
def k0_off9 (k0_t1 : Fin k0_t1_loop.trips) : Fin 2 → Nat :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c2_i32_120 : BitVec 32 := 2#32
  let v133 : BitVec 32 := Scalar.addi v82 c2_i32_120
  let c5_i32_121 : BitVec 32 := 5#32
  let v134 : BitVec 32 := Scalar.addi v133 c5_i32_121
  let c1_i32_122 : BitVec 32 := 1#32
  let v135 : BitVec 32 := Scalar.subi v134 c1_i32_122
  let c0_i32_195 : BitVec 32 := 0#32
  ![v135.toNat, 0]
def k0_cond7 (k0_t1 : Fin k0_t1_loop.trips) : BitVec 1 :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c3_i32_143 : BitVec 32 := 3#32
  let v158 : BitVec 32 := Scalar.addi v82 c3_i32_143
  let c5_i32_144 : BitVec 32 := 5#32
  let v159 : BitVec 32 := Scalar.addi v158 c5_i32_144
  let c1_i32_145 : BitVec 32 := 1#32
  let v160 : BitVec 32 := Scalar.subi v159 c1_i32_145
  let c50_i32_146 : BitVec 32 := 50#32
  let v161 : BitVec 1 := Scalar.cmpi .slt v160 c50_i32_146
  let v162 : BitVec 32 := Scalar.extui v161
  let c0_i32_147 : BitVec 32 := 0#32
  let v163 : BitVec 1 := Scalar.cmpi .ne v162 c0_i32_147
  v163

def k0_cond8 (k0_t1 : Fin k0_t1_loop.trips) : BitVec 1 :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c3_i32_143 : BitVec 32 := 3#32
  let v158 : BitVec 32 := Scalar.addi v82 c3_i32_143
  let c5_i32_144 : BitVec 32 := 5#32
  let v159 : BitVec 32 := Scalar.addi v158 c5_i32_144
  let c1_i32_145 : BitVec 32 := 1#32
  let v160 : BitVec 32 := Scalar.subi v159 c1_i32_145
  let c5_i32_189 : BitVec 32 := 5#32
  let v208 : BitVec 1 := Scalar.cmpi .sge v160 c5_i32_189
  let v209 : BitVec 32 := Scalar.extui v208
  let c0_i32_190 : BitVec 32 := 0#32
  let v210 : BitVec 1 := Scalar.cmpi .ne v209 c0_i32_190
  v210

def k0_off10 (i : grid0.Coords) (k0_t1 : Fin k0_t1_loop.trips) : Fin 2 → Nat :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c3_i32_143 : BitVec 32 := 3#32
  let v158 : BitVec 32 := Scalar.addi v82 c3_i32_143
  let c5_i32_144 : BitVec 32 := 5#32
  let v159 : BitVec 32 := Scalar.addi v158 c5_i32_144
  let c1_i32_145 : BitVec 32 := 1#32
  let v160 : BitVec 32 := Scalar.subi v159 c1_i32_145
  let c5_i32_198 : BitVec 32 := 5#32
  let v218 : BitVec 32 := Scalar.subi v160 c5_i32_198
  let c32_i32_199 : BitVec 32 := 32#32
  let v219 : BitVec 32 := Scalar.muli v218 c32_i32_199
  let c512_i32_200 : BitVec 32 := 512#32
  let v220 : BitVec 32 := Scalar.muli v219 c512_i32_200
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_201 : BitVec 32 := 512#32
  let v221 : BitVec 32 := Scalar.muli v1 c512_i32_201
  let v222 : BitVec 32 := Scalar.addi v220 v221
  let c0_i32_206 : BitVec 32 := 0#32
  ![v222.toNat, 0]
def k0_off11 (k0_t1 : Fin k0_t1_loop.trips) : Fin 2 → Nat :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c3_i32_143 : BitVec 32 := 3#32
  let v158 : BitVec 32 := Scalar.addi v82 c3_i32_143
  let c5_i32_144 : BitVec 32 := 5#32
  let v159 : BitVec 32 := Scalar.addi v158 c5_i32_144
  let c1_i32_145 : BitVec 32 := 1#32
  let v160 : BitVec 32 := Scalar.subi v159 c1_i32_145
  let c0_i32_195 : BitVec 32 := 0#32
  ![v160.toNat, 0]
def k0_cond9 (k0_t1 : Fin k0_t1_loop.trips) : BitVec 1 :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c4_i32_166 : BitVec 32 := 4#32
  let v183 : BitVec 32 := Scalar.addi v82 c4_i32_166
  let c5_i32_167 : BitVec 32 := 5#32
  let v184 : BitVec 32 := Scalar.addi v183 c5_i32_167
  let c1_i32_168 : BitVec 32 := 1#32
  let v185 : BitVec 32 := Scalar.subi v184 c1_i32_168
  let c50_i32_169 : BitVec 32 := 50#32
  let v186 : BitVec 1 := Scalar.cmpi .slt v185 c50_i32_169
  let v187 : BitVec 32 := Scalar.extui v186
  let c0_i32_170 : BitVec 32 := 0#32
  let v188 : BitVec 1 := Scalar.cmpi .ne v187 c0_i32_170
  v188

def k0_cond10 (k0_t1 : Fin k0_t1_loop.trips) : BitVec 1 :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c4_i32_166 : BitVec 32 := 4#32
  let v183 : BitVec 32 := Scalar.addi v82 c4_i32_166
  let c5_i32_167 : BitVec 32 := 5#32
  let v184 : BitVec 32 := Scalar.addi v183 c5_i32_167
  let c1_i32_168 : BitVec 32 := 1#32
  let v185 : BitVec 32 := Scalar.subi v184 c1_i32_168
  let c5_i32_189 : BitVec 32 := 5#32
  let v208 : BitVec 1 := Scalar.cmpi .sge v185 c5_i32_189
  let v209 : BitVec 32 := Scalar.extui v208
  let c0_i32_190 : BitVec 32 := 0#32
  let v210 : BitVec 1 := Scalar.cmpi .ne v209 c0_i32_190
  v210

def k0_off12 (i : grid0.Coords) (k0_t1 : Fin k0_t1_loop.trips) : Fin 2 → Nat :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c4_i32_166 : BitVec 32 := 4#32
  let v183 : BitVec 32 := Scalar.addi v82 c4_i32_166
  let c5_i32_167 : BitVec 32 := 5#32
  let v184 : BitVec 32 := Scalar.addi v183 c5_i32_167
  let c1_i32_168 : BitVec 32 := 1#32
  let v185 : BitVec 32 := Scalar.subi v184 c1_i32_168
  let c5_i32_198 : BitVec 32 := 5#32
  let v218 : BitVec 32 := Scalar.subi v185 c5_i32_198
  let c32_i32_199 : BitVec 32 := 32#32
  let v219 : BitVec 32 := Scalar.muli v218 c32_i32_199
  let c512_i32_200 : BitVec 32 := 512#32
  let v220 : BitVec 32 := Scalar.muli v219 c512_i32_200
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_201 : BitVec 32 := 512#32
  let v221 : BitVec 32 := Scalar.muli v1 c512_i32_201
  let v222 : BitVec 32 := Scalar.addi v220 v221
  let c0_i32_206 : BitVec 32 := 0#32
  ![v222.toNat, 0]
def k0_off13 (k0_t1 : Fin k0_t1_loop.trips) : Fin 2 → Nat :=
  let c0_i32_75 : BitVec 32 := 0#32
  let c0_i32_29 : BitVec 32 := 0#32
  let c1_i32_30 : BitVec 32 := 1#32
  let arg9 : BitVec 32 := Scf.iv c0_i32_29 c1_i32_30 k0_t1
  let c5_i32 : BitVec 32 := 5#32
  let v81 : BitVec 32 := Scalar.muli arg9 c5_i32
  let v82 : BitVec 32 := Scalar.addi c0_i32_75 v81
  let c4_i32_166 : BitVec 32 := 4#32
  let v183 : BitVec 32 := Scalar.addi v82 c4_i32_166
  let c5_i32_167 : BitVec 32 := 5#32
  let v184 : BitVec 32 := Scalar.addi v183 c5_i32_167
  let c1_i32_168 : BitVec 32 := 1#32
  let v185 : BitVec 32 := Scalar.subi v184 c1_i32_168
  let c0_i32_195 : BitVec 32 := 0#32
  ![v185.toNat, 0]
def k0_off14 (i : grid0.Coords) (c737280_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v31 : BitVec 32 := Scalar.muli v1 c512_i32
  let v32 : BitVec 32 := Scalar.addi c737280_i32 v31
  let c0_i32_36 : BitVec 32 := 0#32
  ![v32.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x50 : Shape := ⟨2, ![16384, 50]⟩
abbrev S1000000x32 : Shape := ⟨2, ![1000000, 32]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x32 : Shape := ⟨3, ![16384, 50, 32]⟩

abbrev nBuf : Space → Nat
  | .hbm => 25
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S1000000x32, .f32⟩
  | .hbm, ⟨2, _⟩ => ⟨S_, .i32⟩
  | .hbm, ⟨3, _⟩ => ⟨S16384x50, .i32⟩
  | .hbm, ⟨4, _⟩ => ⟨S16384x50, .i1⟩
  | .hbm, ⟨5, _⟩ => ⟨S_, .i32⟩
  | .hbm, ⟨6, _⟩ => ⟨S16384x50, .i32⟩
  | .hbm, ⟨7, _⟩ => ⟨S16384x50, .i32⟩
  | .hbm, ⟨8, _⟩ => ⟨S16384x50, .i32⟩
  | .hbm, ⟨9, _⟩ => ⟨S16384x50x1, .i32⟩
  | .hbm, ⟨10, _⟩ => ⟨S1, .i32⟩
  | .hbm, ⟨11, _⟩ => ⟨S_, .i32⟩
  | .hbm, ⟨12, _⟩ => ⟨S16384x50x1, .i32⟩
  | .hbm, ⟨13, _⟩ => ⟨S16384x50x1, .i1⟩
  | .hbm, ⟨14, _⟩ => ⟨S1x1x1, .i32⟩
  | .hbm, ⟨15, _⟩ => ⟨S16384x50x1, .i32⟩
  | .hbm, ⟨16, _⟩ => ⟨S16384x50x1, .i1⟩
  | .hbm, ⟨17, _⟩ => ⟨S16384x50x1, .i1⟩
  | .hbm, ⟨18, _⟩ => ⟨S_, .i1⟩
  | .hbm, ⟨19, _⟩ => ⟨S16384x50, .i1⟩
  | .hbm, ⟨20, _⟩ => ⟨S16384x50x32, .f32⟩
  | .hbm, ⟨21, _⟩ => ⟨S16384x50x32, .i1⟩
  | .hbm, ⟨22, _⟩ => ⟨S_, .f32⟩
  | .hbm, ⟨23, _⟩ => ⟨S16384x50x32, .f32⟩
  | .hbm, ⟨24, _⟩ => ⟨S16384x50x32, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.KernelIdealGeometry.lean ====
/-
  The kernel's pieces of memory, as plain coordinates. A tile of the SparseCores (`L`, its number `wid L`) reads its
  fifty lists of 512 row numbers from the index array (`iWin`), gathers 512 table rows at a time into one of five row
  buffers (`rBuf`), the row numbers being one row of its list scratch (`lRow`), and copies each buffer to its block of
  512 rows of the result (`oWin`). For each of these windows: the elements under it (`set_…`) and where its index goes
  (`emb_…`); and what each array holds, named once over the contents `I` of the index array and `X` of the table:
  the list scratch `listV`, the row buffers `rowV`, the result `outV`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.ValueIdx (ix1 ix2 ix3 eq_ix1 eq_ix2 eq_ix3)
open Idealize.ShloMosaic.SparseCore (S V T)

variable {F : FTy → Type}

/-! ## The arrays and their windows -/

local notation "iV" => (Memref.whole Cert.KernelIdeal.main_v1_scv : Memref Cert.KernelIdeal.sig Kind.scVector Space.hbm Cert.KernelIdeal.S50x32x512 EltTy.i32)
local notation "xV" => (Memref.whole Cert.KernelIdeal.main_v2_scv : Memref Cert.KernelIdeal.sig Kind.scVector Space.hbm Cert.KernelIdeal.S1000000x128 EltTy.f32)
local notation "oV" => (Memref.whole Cert.KernelIdeal.main_v3_scv : Memref Cert.KernelIdeal.sig Kind.scVector Space.hbm Cert.KernelIdeal.S819200x128 EltTy.f32)
local notation "sV" => (Memref.whole Cert.KernelIdeal.cc0_scratch0 : Memref Cert.KernelIdeal.sig Kind.scVector Space.vmem Cert.KernelIdeal.S50x512 EltTy.i32)
local notation "rV" => (Memref.whole Cert.KernelIdeal.cc0_scratch1 : Memref Cert.KernelIdeal.sig Kind.scVector Space.vmem Cert.KernelIdeal.S5x512x128 EltTy.f32)

/-- Tile `L`'s number among the 32: twice its subcore plus its SparseCore. -/
def wid (L : grid0.Coords) : Fin 32 :=
  ⟨2 * (L 1).val + (L 0).val, by
    have h0 : (L 0).val < 2 := (L 0).isLt
    have h1 : (L 1).val < 16 := (L 1).isLt
    omega⟩

/-- The index array's window at axis-1 offset `off 1`: one tile's fifty lists. -/
abbrev iWin (off : Fin 3 → ℕ) (inb : ∀ a, off a + S50x1x512.size a ≤ S50x32x512.size a) : Memref sig .scVector .hbm S50x512 .i32 :=
  ((iV).slice (Rect.unit (s := S50x32x512) off S50x1x512.size inb) (fun _ => rfl)).squeeze S50x512 squeezes_S50x1x512_S50x512
/-- The whole table, as the gathers name it. -/
abbrev xAll : Memref sig .scVector .hbm S1000000x128 .f32 :=
  (xV).slice (Rect.unit (s := S1000000x128) ![0, 0] S1000000x128.size inb_S1000000x128_S1000000x128_0_0) (fun _ => rfl)
/-- One row buffer of the five. -/
abbrev rBuf (off : Fin 3 → ℕ) (inb : ∀ a, off a + S1x512x128.size a ≤ S5x512x128.size a) : Memref sig .scVector .vmem S512x128 .f32 :=
  ((rV).slice (Rect.unit (s := S5x512x128) off S1x512x128.size inb) (fun _ => rfl)).squeeze S512x128 squeezes_S1x512x128_S512x128
/-- One list of the fifty. -/
abbrev lRow (off : Fin 2 → ℕ) (inb : ∀ a, off a + S1x512.size a ≤ S50x512.size a) : Memref sig .scVector .vmem S512 .i32 :=
  ((sV).slice (Rect.unit (s := S50x512) off S1x512.size inb) (fun _ => rfl)).squeeze S512 squeezes_S1x512_S512
/-- One block of 512 rows of the result. -/
abbrev oWin (off : Fin 2 → ℕ) (inb : ∀ a, off a + S512x128.size a ≤ S819200x128.size a) : Memref sig .scVector .hbm S512x128 .f32 :=
  (oV).slice (Rect.unit (s := S819200x128) off S512x128.size inb) (fun _ => rfl)
/-- One semaphore of an array of five. -/
abbrev sem5 (a : DmaSems sig S5) (off : Fin 1 → ℕ) (inb : ∀ i, off i + S1.size i ≤ S5.size i) : DmaSem sig :=
  ((a.slice (Rect.unit (s := S5) off S1.size inb)).squeeze S_ squeezes_S1_S_).sem

/-- The index array's elements of tile `w`. -/
def iSet (w : ℕ) : Finset S50x32x512.Idx := Finset.univ.filter fun i => (i 1).val = w
/-- The elements of row buffer `b`. -/
def rSet (b : ℕ) : Finset S5x512x128.Idx := Finset.univ.filter fun i => (i 0).val = b
/-- The elements of block `q` of the result. -/
def oSet (q : ℕ) : Finset S819200x128.Idx := Finset.univ.filter fun i => (i 0).val / 512 = q

theorem set_iWin {off : Fin 3 → ℕ} {inb} (w : ℕ) (h : off = ![0, w, 0]) : (iWin off inb).view.set = iSet w := by
  subst h
  show (((iV).view.slice (Rect.unit (s := S50x32x512) ![0, w, 0] S50x1x512.size inb)).reshape S50x512 squeezes_S50x1x512_S50x512.numel_eq).set = _
  rw [View.set_reshape]
  show ((View.whole (main_v1_scv : Ref sig .scVector)).slice _).set = _
  rw [View.set_slice_whole]
  ext i
  rw [Rect.mem_set_unit]
  simp only [iSet, Finset.mem_filter, Finset.mem_univ, true_and]
  refine ⟨fun h => ?_, fun h a => ?_⟩
  · have h1 : w ≤ (i 1).val ∧ (i 1).val < w + 1 := h 1
    omega
  · match a with
    | 0 => exact ⟨Nat.zero_le _, (Nat.zero_add 50).symm ▸ (i 0).isLt⟩
    | 1 => exact (show w ≤ (i 1).val ∧ (i 1).val < w + 1 by omega)
    | 2 => exact ⟨Nat.zero_le _, (Nat.zero_add 512).symm ▸ (i 2).isLt⟩

theorem set_rBuf {off : Fin 3 → ℕ} {inb} (b : ℕ) (h : off = ![b, 0, 0]) : (rBuf off inb).view.set = rSet b := by
  subst h
  show (((rV).view.slice (Rect.unit (s := S5x512x128) ![b, 0, 0] S1x512x128.size inb)).reshape S512x128 squeezes_S1x512x128_S512x128.numel_eq).set = _
  rw [View.set_reshape]
  show ((View.whole (cc0_scratch1 : Ref sig .scVector)).slice _).set = _
  rw [View.set_slice_whole]
  ext i
  rw [Rect.mem_set_unit]
  simp only [rSet, Finset.mem_filter, Finset.mem_univ, true_and]
  refine ⟨fun h => ?_, fun h a => ?_⟩
  · have h1 : b ≤ (i 0).val ∧ (i 0).val < b + 1 := h 0
    omega
  · match a with
    | 0 => exact (show b ≤ (i 0).val ∧ (i 0).val < b + 1 by omega)
    | 1 => exact ⟨Nat.zero_le _, (Nat.zero_add 512).symm ▸ (i 1).isLt⟩
    | 2 => exact ⟨Nat.zero_le _, (Nat.zero_add 128).symm ▸ (i 2).isLt⟩

theorem set_oWin {off : Fin 2 → ℕ} {inb} (q : ℕ) (h : off = ![512 * q, 0]) : (oWin off inb).view.set = oSet q := by
  subst h
  show ((View.whole (main_v3_scv : Ref sig .scVector)).slice _).set = _
  rw [View.set_slice_whole]
  ext i
  rw [Rect.mem_set_unit]
  simp only [oSet, Finset.mem_filter, Finset.mem_univ, true_and]
  refine ⟨fun h => ?_, fun h a => ?_⟩
  · have h1 : 512 * q ≤ (i 0).val ∧ (i 0).val < 512 * q + 512 := h 0
    omega
  · match a with
    | 0 => exact (show 512 * q ≤ (i 0).val ∧ (i 0).val < 512 * q + 512 by omega)
    | 1 => exact ⟨Nat.zero_le _, (Nat.zero_add 128).symm ▸ (i 1).isLt⟩

theorem set_xAll : xAll.view.set = Finset.univ := by
  show ((View.whole (main_v2_scv : Ref sig .scVector)).slice _).set = _
  rw [View.set_slice_whole]
  ext i
  rw [Rect.mem_set_unit]
  simp only [Finset.mem_univ, iff_true]
  intro a
  match a with
  | 0 => exact ⟨Nat.zero_le _, (Nat.zero_add 1000000).symm ▸ (i 0).isLt⟩
  | 1 => exact ⟨Nat.zero_le _, (Nat.zero_add 128).symm ▸ (i 1).isLt⟩

/-! ## Where a window's index goes -/

theorem emb_xAll (x : S1000000x128.Idx) : xAll.view.emb x = x := by
  show (Rect.unit (s := S1000000x128) ![0, 0] S1000000x128.size inb_S1000000x128_S1000000x128_0_0).emb x = x
  funext a
  refine Fin.ext ?_
  rw [Rect.emb_apply]
  match a with
  | 0 => simp
  | 1 => simp

theorem emb_oWin {off : Fin 2 → ℕ} {inb} (q : ℕ) (h : off = ![512 * q, 0]) (x : S512x128.Idx) :
    ((oWin off inb).view.emb x 0).val = 512 * q + (x 0).val ∧ (oWin off inb).view.emb x 1 = x 1 := by
  subst h
  constructor
  · show ((Rect.unit (s := S819200x128) _ S512x128.size inb).emb x 0).val = _
    rw [Rect.emb_apply]; simp
  · show (Rect.unit (s := S819200x128) _ S512x128.size inb).emb x 1 = _
    refine Fin.ext ?_
    rw [Rect.emb_apply]; simp

theorem emb_rBuf {off : Fin 3 → ℕ} {inb} (b : Fin 5) (h : off = ![b.val, 0, 0]) (x : S512x128.Idx) :
    (rBuf off inb).view.emb x = ix3 b (x 0) (x 1) := by
  subst h
  have e : Shape.reshapeEquiv squeezes_S1x512x128_S512x128.numel_eq x = (ix3 (0 : Fin 1) (x 0) (x 1) : S1x512x128.Idx) :=
    Shape.reshapeEquiv_eq_of_rowMajor _ (by
      rw [Shape.rowMajor_val_three, Shape.rowMajor_val_two]; simp)
  show (Rect.unit (s := S5x512x128) _ S1x512x128.size inb).emb (Shape.reshapeEquiv squeezes_S1x512x128_S512x128.numel_eq x) = _
  rw [e]
  funext a
  refine Fin.ext ?_
  rw [Rect.emb_apply]
  match a with
  | 0 => simp
  | 1 => simp
  | 2 => simp

theorem emb_lRow {off : Fin 2 → ℕ} {inb} (j : Fin 50) (h : off = ![j.val, 0]) (x : S512.Idx) :
    (lRow off inb).view.emb x = ix2 j (x 0) := by
  subst h
  have e : Shape.reshapeEquiv squeezes_S1x512_S512.numel_eq x = (ix2 (0 : Fin 1) (x 0) : S1x512.Idx) :=
    Shape.reshapeEquiv_eq_of_rowMajor _ (by
      rw [Shape.rowMajor_val_two, Shape.rowMajor_val_one]; simp)
  show (Rect.unit (s := S50x512) _ S1x512.size inb).emb (Shape.reshapeEquiv squeezes_S1x512_S512.numel_eq x) = _
  rw [e]
  funext a
  refine Fin.ext ?_
  rw [Rect.emb_apply]
  match a with
  | 0 => simp
  | 1 => simp

theorem emb_iWin {off : Fin 3 → ℕ} {inb} (w : Fin 32) (h : off = ![0, w.val, 0]) (x : S50x512.Idx) :
    (iWin off inb).view.emb x = ix3 (x 0) w (x 1) := by
  subst h
  have e : Shape.reshapeEquiv squeezes_S50x1x512_S50x512.numel_eq x = (ix3 (x 0) (0 : Fin 1) (x 1) : S50x1x512.Idx) :=
    Shape.reshapeEquiv_eq_of_rowMajor _ (by
      rw [Shape.rowMajor_val_three, Shape.rowMajor_val_two]; simp)
  show (Rect.unit (s := S50x32x512) _ S50x1x512.size inb).emb (Shape.reshapeEquiv squeezes_S50x1x512_S50x512.numel_eq x) = _
  rw [e]
  funext a
  refine Fin.ext ?_
  rw [Rect.emb_apply]
  match a with
  | 0 => simp
  | 1 => simp
  | 2 => simp

/-! ## The contents -/

/-- Row `v` of the table `X` (rows counted modulo their number, so that every word names one) at column `c`. -/
def rowOf (X : S1000000x128.Idx → F .f32) (v : BitVec 32) (c : Fin 128) : F .f32 :=
  X (ix2 (⟨v.toNat % 1000000, Nat.mod_lt _ (by decide)⟩ : Fin 1000000) c)

/-- What the list scratch of tile `w` holds once fetched: the tile's lists. -/
def listV (I : S50x32x512.Idx → BitVec 32) (w : Fin 32) : S50x512.Idx → BitVec 32 :=
  fun y => I (ix3 (y 0) w (y 1))

/-- What a row buffer of tile `w` holds once list `j` is gathered: at row `l` the table's row of the list's entry `l`. -/
def rowV (I : S50x32x512.Idx → BitVec 32) (X : S1000000x128.Idx → F .f32) (w : Fin 32) (j : Fin 50) : S5x512x128.Idx → F .f32 :=
  fun y => rowOf X (I (ix3 j w (y 1))) (y 2)

/-- What the result holds in the end: row `r` is the table's row of entry `r % 512` of list `r / 16384` of tile
    `r / 512 % 32`. -/
def outV (I : S50x32x512.Idx → BitVec 32) (X : S1000000x128.Idx → F .f32) : S819200x128.Idx → F .f32 :=
  fun y => rowOf X
    (I (ix3 (⟨(y 0).val / 16384, by have h : (y 0).val < 819200 := (y 0).isLt; omega⟩ : Fin 50)
      (⟨(y 0).val / 512 % 32, Nat.mod_lt _ (by decide)⟩ : Fin 32)
      (⟨(y 0).val % 512, Nat.mod_lt _ (by decide)⟩ : Fin 512)))
    (y 1)

end Cert.Proof.KernelIdeal

end
-- ==== Proof.KernelIdealSteps.lean ====
/-
  The four operations a tile's pipeline is made of, each as one step on the state of ONE row buffer (`b` of five):
  starting the gather of list `j` into an idle buffer (`gather_start`), waiting for it (`gather_wait`), starting the
  copy of the gathered rows to their block of the result (`out_start`) and waiting for that (`out_wait`). A buffer is
  idle (`Idle`), being gathered into (`Gath`), full (`Full`) or being copied out (`Out`). With each buffer goes one
  share of the list scratch and one of the table, so that the five gathers in flight do not interfere; the contents a
  gather or a copy delivers are the arrays' named contents (`rowV`, `outV`), by `gather_value` and `out_value`.
-/
module

public import proofs.«01_k».proof.Proof.KernelIdealGeometry

@[expose] public section

noncomputable section

namespace Cert.Proof.KernelIdeal

open Cert.KernelIdeal Cert.KernelIdeal.Gen

open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Where things are -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev iLoc (d : Dev nD) : Loc nD τ sig := (SparseCore.T d).loc main_v1
abbrev xLoc (d : Dev nD) : Loc nD τ sig := (SparseCore.T d).loc main_v2
abbrev oLoc (d : Dev nD) : Loc nD τ sig := (SparseCore.T d).loc main_v3
abbrev sLoc (d : Dev nD) (L : grid0.Coords) : Loc nD τ sig := (thr d L).loc cc0_scratch0
abbrev rLoc (d : Dev nD) (L : grid0.Coords) : Loc nD τ sig := (thr d L).loc cc0_scratch1

/-- Buffer `b`'s gather semaphore and its copy-out semaphore; the index fetch's. -/
abbrev gsem (b : Fin 5) : DmaSem sig := (⟨b.val, by omega⟩ : Fin 11)
abbrev osem (b : Fin 5) : DmaSem sig := (⟨5 + b.val, by omega⟩ : Fin 11)
abbrev fsem : DmaSem sig := (10 : Fin 11)

/-- What one gather, and one copy out, credits its semaphore: 512 rows of 128 words of 32 bits. -/
abbrev NB : ℕ := 2097152

/-- What one gather delivers: the buffer holding the table's rows. -/
theorem gather_value (I : S50x32x512.Idx → BitVec 32) (X : S1000000x128.Idx → F .f32) (w : Fin 32) (b : Fin 5) (j : Fin 50)
    {off inb loff linb} (hb : off = ![b.val, 0, 0]) (hl : loff = ![j.val, 0])
    (fd : S5x512x128.Idx → F .f32) (hn : S512.numel = S512x128.size gathers_S1000000x128_S512x128.axis')
    (hin : ∀ x, ((lRow loff linb).view.read (Elt F) (listV I w) x).toNat < S1000000x128.size gathers_S1000000x128_S512x128.axis) :
    ∀ i ∈ (rBuf off inb).view.set,
      (rBuf off inb).view.write (Elt F) fd
        (SparseCore.gatherPayload gathers_S1000000x128_S512x128 (xAll.view.read (Elt F) X)
          (SparseCore.rows ((lRow loff linb).view.read (Elt F) (listV I w)) hn hin)) Finset.univ i = rowV I X w j i := by
  intro i hi
  obtain ⟨x, -, rfl⟩ := Finset.mem_map.mp hi
  refine (View.write_emb_of_mem _ _ (Finset.mem_univ x)).trans ?_
  rw [emb_rBuf b hb x]
  have hX : ∀ y, xAll.view.read (Elt F) X y = X y := fun y =>
    ((View.read_apply _ _).trans (cast_eq _ _)).trans (congrArg X (emb_xAll y))
  have hL : ∀ y, (lRow loff linb).view.read (Elt F) (listV I w) y = I (ix3 j w (y 0)) := fun y =>
    ((View.read_apply _ _).trans (cast_eq _ _)).trans (by rw [emb_lRow j hl y]; rfl)
  refine (cast_eq _ _).trans ?_
  unfold SparseCore.gatherPayload
  rw [hX]
  unfold rowV rowOf
  congr 1
  funext a
  refine Fin.ext ?_
  have hy : (S512.rowMajor.symm ((x 0).cast hn.symm)) 0 = x 0 := by
    refine Fin.ext ?_
    have h := Shape.rowMajor_val_one (d := ![512]) (S512.rowMajor.symm ((x 0).cast hn.symm))
    rw [← h]
    exact congrArg Fin.val (Equiv.apply_symm_apply S512.rowMajor _)
  match a with
  | 0 =>
    have h := Shape.Gathers.idx_axis gathers_S1000000x128_S512x128
      (SparseCore.rows ((lRow loff linb).view.read (Elt F) (listV I w)) hn hin) x
    have hlt := hin (S512.rowMajor.symm ((x 0).cast hn.symm))
    refine (congrArg Fin.val h).trans ?_
    show ((lRow loff linb).view.read (Elt F) (listV I w) (S512.rowMajor.symm ((x 0).cast hn.symm))).toNat = _
    rw [hL, hy] at hlt
    rw [hL, hy]
    exact (Nat.mod_eq_of_lt hlt).symm
  | 1 =>
    exact Shape.Gathers.idx_of_ne gathers_S1000000x128_S512x128 _ x 1 (by decide)

/-- What one copy out delivers: the block of the result at its final contents. -/
theorem out_value (I : S50x32x512.Idx → BitVec 32) (X : S1000000x128.Idx → F .f32) (w : Fin 32) (b : Fin 5) (j : Fin 50)
    {off inb ooff oinb} (hb : off = ![b.val, 0, 0]) (ho : ooff = ![512 * (32 * j.val + w.val), 0])
    (fd : S819200x128.Idx → F .f32) :
    ∀ i ∈ (oWin ooff oinb).view.set,
      (oWin ooff oinb).view.write (Elt F) fd ((rBuf off inb).view.read (Elt F) (rowV I X w j)) Finset.univ i = outV I X i := by
  intro i hi
  obtain ⟨x, -, rfl⟩ := Finset.mem_map.mp hi
  refine (View.write_emb_of_mem _ _ (Finset.mem_univ x)).trans ?_
  refine (cast_eq _ _).trans ?_
  refine ((View.read_apply _ _).trans (cast_eq _ _)).trans ?_
  rw [emb_rBuf b hb x]
  obtain ⟨h0, h1⟩ := emb_oWin (inb := oinb) (32 * j.val + w.val) ho x
  unfold outV rowV
  have hx : (x 0).val < 512 := (x 0).isLt
  have hj := j.isLt
  have hw := w.isLt
  rw [h1]
  congr 2
  funext a
  refine Fin.ext ?_
  match a with
  | 0 => show j.val = _ / 16384; rw [h0]; omega
  | 1 => show w.val = _ / 512 % 32; rw [h0]; omega
  | 2 => show (x 0).val = _ % 512; rw [h0]; omega

/-! ## The state of a row buffer -/

section Steps

variable (d : Dev nD) (L : grid0.Coords) (I : S50x32x512.Idx → BitVec 32) (X : S1000000x128.Idx → F .f32) (q : PosShare TreeShare)

/-- The share of the list scratch, and of the table, that goes with buffer `b`. -/
abbrev sTok (b : Fin 5) : sProp 𝕄 := sLoc d L ↦{shareTok fullShare 5 b} listV I (wid L)
abbrev xTok (b : Fin 5) : sProp 𝕄 := xLoc d ↦{shareTok q 5 b} X
/-- Buffer `b` holding list `j`'s rows. -/
abbrev rPts (b : Fin 5) (j : Fin 50) : sProp 𝕄 := rLoc d L ↦[rSet b.val]{fullShare} rowV I X (wid L) j
/-- The tile's block `j` of the result, at contents `f`. -/
abbrev oPts (j : ℕ) (f : S819200x128.Idx → F .f32) : sProp 𝕄 := oLoc d ↦[oSet (32 * j + (wid L).val)]{fullShare} f
abbrev gVal (b : Fin 5) : sProp 𝕄 := semVal (thr d L, SemLoc.dma (gsem b)) 0
abbrev oVal (b : Fin 5) : sProp 𝕄 := semVal (thr d L, SemLoc.dma (osem b)) 0

/-- Buffer `b` idle. -/
def Idle (b : Fin 5) : sProp 𝕄 :=
  iprop((∃ f, rLoc d L ↦[rSet b.val]{fullShare} f) ∗ sTok d L I b ∗ xTok d X q b ∗ gVal d L b ∗ oVal d L b)
/-- Buffer `b` being gathered into, from list `j`. -/
def Gath (b : Fin 5) (j : Fin 50) : sProp 𝕄 :=
  iprop(∃ A : Finset S50x512.Idx,
    Transfers.Flight countersEmb (thr d L) (SemLoc.dma (gsem b)) (default : HIx 1) NB
        iprop(rPts d L I X b j ∗ xTok d X q b ∗ (sLoc d L ↦[A]{shareTok fullShare 5 b} listV I (wid L)))
      ∗ (sLoc d L ↦[Finset.univ \ A]{shareTok fullShare 5 b} listV I (wid L)) ∗ oVal d L b)
/-- Buffer `b` full of list `j`'s rows. -/
def Full (b : Fin 5) (j : Fin 50) : sProp 𝕄 :=
  iprop(rPts d L I X b j ∗ sTok d L I b ∗ xTok d X q b ∗ gVal d L b ∗ oVal d L b)
/-- Buffer `b` being copied to the tile's block `j` of the result. -/
def Out (b : Fin 5) (j : Fin 50) : sProp 𝕄 :=
  iprop(Transfers.Flight countersEmb (thr d L) (SemLoc.dma (osem b)) (default : HIx 1) NB
        iprop(oPts d L j.val (outV I X) ∗ rPts d L I X b j)
      ∗ sTok d L I b ∗ xTok d X q b ∗ gVal d L b)

/-- What the tile's waits need and leave: the evidence that it may wait, and its record of waits, which grows by the
    tile's own waits only. -/
def OW (O : CellTallies nD τ sig (HIx 1)) (W : Waits sig (HIx 1)) : sProp 𝕄 :=
  iprop(Transfers.MayWaits (thr d L) (default : HIx 1) O
    ∗ ∃ W', ⌜∀ p ∈ W', p ∈ W ∨ p.2 = none⌝ ∗ owes (thr d L) O W')

variable [FloatOps F]

/-- The weakest precondition of a piece of this tile's program. -/
abbrev wpT {α : Type} (p : Prog (TpuEff nD τ sig (Elt F) Λ₀ (thr d L).2) α) (Φ : α → sProp 𝕄) : sProp 𝕄 :=
  wp frame (wpE (defs₀ (F := F)) 𝒱₀ (thr d L) none) Set.univ p Φ

/-- Starting the gather of list `j` into buffer `b`. -/
theorem gather_start (hI : ∀ i, (I i).toNat < 1000000) (b : Fin 5) (j : Fin 50) {off inb loff linb} {sem : DmaSem sig}
    (hb : off = ![b.val, 0, 0]) (hl : loff = ![j.val, 0]) (hs : sem = gsem b)
    {hp : (thr d L).2.kind = .scVector} {hn : S512.numel = S512x128.size gathers_S1000000x128_S512x128.axis'}
    {hsrc : xAll.view.WordExact} {he : EltTy.bits .f32 = 32} {hsp : Space.hbm = .hbm ∨ Space.hbm = .shared} {hr : S1000000x128.StreamRows 0}
    (Φ : PUnit → sProp 𝕄) :
    iprop(Idle d L I X q b ∗ (Gath d L I X q b j -∗ Φ ⟨⟩))
      ⊢ wpT d L (SparseCore.enqueueIndirectGather hp xAll (rBuf off inb) gathers_S1000000x128_S512x128 (lRow loff linb) hn sem hsrc he hsp hr) Φ := by
  subst hs
  have hL : ∀ y, (lRow loff linb).view.read (Elt F) (listV I (wid L)) y = I (ix3 j (wid L) (y 0)) := fun y =>
    ((View.read_apply _ _).trans (cast_eq _ _)).trans (by rw [emb_lRow j hl y]; rfl)
  have hin : ∀ x, ((lRow loff linb).view.read (Elt F) (listV I (wid L)) x).toNat < S1000000x128.size gathers_S1000000x128_S512x128.axis :=
    fun x => by rw [hL]; exact hI _
  have hN : ∑ k, ((rBuf off inb).slice (S512x128.rowRect gathers_S1000000x128_S512x128.axis' k)
      (S512x128.stride_rowRect gathers_S1000000x128_S512x128.axis' k)).view.dmaCredit = NB :=
    SparseCore.sum_rowCredit_eq_dmaCredit (rBuf off inb) _ (fun _ => rfl)
  unfold Idle
  iintro ⟨⟨⟨%f, Hr⟩, Hs, Hx, Hg, Ho⟩, HΦ⟩
  ihave Hs2 := (pointsTo_split_subset (ℓ := sLoc d L) (q := shareTok fullShare 5 b) (f := listV I (wid L)) (S := Finset.univ)
    (Finset.subset_univ (lRow loff linb).view.set)).1 $$ Hs
  icases Hs2 with ⟨Hs, Hsr⟩
  ihave Hr2 := (Entails.of_eq (show (rLoc d L ↦[rSet b.val]{fullShare} f : sProp 𝕄)
      = (rBuf off inb).view.loc (thr d L) ↦[(rBuf off inb).view.set]{fullShare} f by rw [set_rBuf b.val hb])) $$ Hr
  ihave Hx2 := (Entails.of_eq (show (xLoc d ↦{shareTok q 5 b} X : sProp 𝕄)
      = xAll.view.loc (thr d L) ↦[xAll.view.set]{shareTok q 5 b} X by rw [set_xAll])) $$ Hx
  have h := SparseCore.wp_indirectGatherLocal (defs := defs₀ (F := F)) (src := xAll) (dst := rBuf off inb) (offs := lRow loff linb) (sem := gsem b) (hp := hp) (hn := hn) (hsrc := hsrc) (he := he) (hsp := hsp) (hr := hr)
    (k := Prog.ret) (Q := Φ) (q := shareTok q 5 b) (qo := shareTok fullShare 5 b) (fs := X) (fd := f) (fo := listV I (wid L))
    countersEmb 𝒱₀ (thr d L) none (hg := gathers_S1000000x128_S512x128) (default : HIx 1) NB hN (by decide) hin
  rw [show ∀ p : Prog (TpuEff nD τ sig (Elt F) Λ₀ (thr d L).2) PUnit, (p >>= Prog.ret) = p from bind_pure] at h
  iapply h $$ [Hx2 Hr2 Hs Hg]
  · isplitl [Hx2]; · iexact Hx2
    isplitl [Hr2]; · iexact Hr2
    isplitl [Hs]; · iexact Hs
    iexact Hg
  iintro Hfl
  rw [wp_ret]; imodintro
  iapply HΦ
  unfold Gath
  iexists (lRow loff linb).view.set
  isplitl [Hfl]
  · iapply (Transfers.Flight_mono countersEmb (thr d L) ?_) $$ Hfl
    iintro ⟨Hr, Hx, Hs⟩
    isplitl [Hr]
    · iapply (Entails.of_eq ((pointsTo_congr (gather_value I X (wid L) b j hb hl f hn hin)).trans
        (by rw [set_rBuf b.val hb]))) $$ Hr
    isplitl [Hx]
    · iapply (Entails.of_eq (show (xAll.view.loc (thr d L) ↦[xAll.view.set]{shareTok q 5 b} X : sProp 𝕄)
        = xLoc d ↦{shareTok q 5 b} X by rw [set_xAll])) $$ Hx
    iexact Hs
  isplitl [Hsr]; · iexact Hsr
  iexact Ho

/-- Waiting for it. -/
theorem gather_wait (O : CellTallies nD τ sig (HIx 1)) (W : Waits sig (HIx 1)) (b : Fin 5) (j : Fin 50) {off inb} {sem : DmaSem sig}
    (hs : sem = gsem b) {hsrc : xAll.view.WordExact} {hdst : (rBuf off inb).view.WordExact} (Φ : PUnit → sProp 𝕄) :
    iprop((OW d L O W ∗ Gath d L I X q b j) ∗ ((OW d L O W ∗ Full d L I X q b j) -∗ Φ ⟨⟩))
      ⊢ wpT d L (SparseCore.waitIndirectGather sem xAll (rBuf off inb) hsrc hdst) Φ := by
  subst hs
  unfold Gath OW
  iintro ⟨⟨⟨#Hmw, %W', %hW, HO⟩, %A, Hfl, Hsr, Ho⟩, HΦ⟩
  have h := Transfers.wp_waitLocalO (defs := defs₀ (F := F)) (srcw := xAll) (dstw := rBuf off inb) (hsrc := hsrc) (hdst := hdst)
    (k := Prog.ret) (Q := Φ) (sem := gsem b) (O := O) (W := W')
    (D := iprop(rPts d L I X b j ∗ xTok d X q b ∗ (sLoc d L ↦[A]{shareTok fullShare 5 b} listV I (wid L))))
    countersEmb 𝒱₀ (thr d L) none (default : HIx 1) (rfl : (rBuf off inb).view.dmaCredit = NB)
  iapply h $$ [Hfl HO]
  · isplitl [Hfl]; · iexact Hfl
    isplitl [HO]; · iexact HO
    iapply (Transfers.MayWaits.elim (SemLoc.dma (gsem b))) $$ Hmw
  iintro ⟨⟨Hr, Hx, Hs⟩, Hg, HO⟩
  rw [wp_ret]; imodintro
  iapply HΦ
  isplitl [HO]
  · isplitr; · iexact Hmw
    iexists _; isplitr
    swap; · iexact HO
    ipureintro; intro p hp
    rcases Finset.mem_insert.mp hp with hp | hp; · exact .inr (hp ▸ rfl)
    exact hW p hp
  unfold Full
  isplitl [Hr]; · iexact Hr
  isplitl [Hs Hsr]
  · iapply (pointsTo_split_subset (ℓ := sLoc d L) (q := shareTok fullShare 5 b) (f := listV I (wid L)) (S := Finset.univ)
      (Finset.subset_univ A)).2
    isplitl [Hs] <;> iassumption
  isplitl [Hx]; · iexact Hx
  isplitl [Hg] <;> iassumption

/-- Starting the copy of buffer `b` to the tile's block `j`. -/
theorem out_start (b : Fin 5) (j : Fin 50) (f : S819200x128.Idx → F .f32) {off inb ooff oinb} {sem : DmaSem sig}
    (hb : off = ![b.val, 0, 0]) (ho : ooff = ![512 * (32 * j.val + (wid L).val), 0]) (hs : sem = osem b)
    {hsrc : (rBuf off inb).view.WordExact} {hdst : (oWin ooff oinb).view.WordExact}
    {hsem : DmaTarget.Typed (nD := nD) (p := (thr d L).2) .vmem (SemLoc.dma sem) (.here (oWin ooff oinb))} (Φ : PUnit → sProp 𝕄) :
    iprop((Full d L I X q b j ∗ oPts d L j.val f) ∗ (Out d L I X q b j -∗ Φ ⟨⟩))
      ⊢ wpT d L (Prog.lift (TpuEff.enqueueDma (p := (thr d L).2) (rBuf off inb) (.here (oWin ooff oinb)) (.dma sem) hsrc hdst hsem)) Φ := by
  subst hs
  unfold Full
  iintro ⟨⟨⟨Hr, Hs, Hx, Hg, Hov⟩, Ho⟩, HΦ⟩
  ihave Hr2 := (Entails.of_eq (show (rPts d L I X b j : sProp 𝕄)
      = (rBuf off inb).view.loc (thr d L) ↦[(rBuf off inb).view.set]{fullShare} rowV I X (wid L) j by rw [set_rBuf b.val hb])) $$ Hr
  ihave Ho2 := (Entails.of_eq (show (oPts d L j.val f : sProp 𝕄)
      = (oWin ooff oinb).view.loc (thr d L) ↦[(oWin ooff oinb).view.set]{fullShare} f by rw [set_oWin _ ho])) $$ Ho
  have h := Transfers.wp_dmaLocal (defs := defs₀ (F := F)) (src := rBuf off inb) (via := .same) (dst := oWin ooff oinb) (sm := SemLoc.dma (osem b))
    (hsrc := hsrc) (hdst := hdst) (hsem := hsem) (k := Prog.ret) (Q := Φ) (q := fullShare) (fs := rowV I X (wid L) j) (fd := f)
    countersEmb 𝒱₀ (thr d L) none (default : HIx 1) NB rfl (by decide) (Finset.Subset.refl (oWin ooff oinb).view.set)
  iapply h $$ [Hr2 Ho2 Hov]
  · isplitl [Hr2]; · iexact Hr2
    isplitl [Ho2]; · iexact Ho2
    iexact Hov
  iintro Hfl
  rw [wp_ret]; imodintro
  iapply HΦ
  unfold Out
  isplitl [Hfl]
  · iapply (Transfers.Flight_mono countersEmb (thr d L) ?_) $$ Hfl
    iintro ⟨Ho, Hr⟩
    isplitl [Ho]
    · iapply (Entails.of_eq ((pointsTo_congr (out_value I X (wid L) b j hb ho f)).trans
        (by rw [set_oWin _ ho]))) $$ Ho
    iapply (Entails.of_eq (show ((rBuf off inb).view.loc (thr d L) ↦[(rBuf off inb).view.set]{fullShare} rowV I X (wid L) j : sProp 𝕄)
      = rPts d L I X b j by rw [set_rBuf b.val hb])) $$ Hr
  isplitl [Hs]; · iexact Hs
  isplitl [Hx] <;> iassumption

/-- Waiting for it. -/
theorem out_wait (O : CellTallies nD τ sig (HIx 1)) (W : Waits sig (HIx 1)) (b : Fin 5) (j : Fin 50) {off inb ooff oinb} {sem : DmaSem sig}
    (hs : sem = osem b) {hsrc : (rBuf off inb).view.WordExact} {hdst : (oWin ooff oinb).view.WordExact} (Φ : PUnit → sProp 𝕄) :
    iprop((OW d L O W ∗ Out d L I X q b j) ∗ ((OW d L O W ∗ Idle d L I X q b ∗ oPts d L j.val (outV I X)) -∗ Φ ⟨⟩))
      ⊢ wpT d L (Prog.lift (TpuEff.waitDma2 sem (rBuf off inb) (oWin ooff oinb) hsrc hdst)) Φ := by
  subst hs
  unfold Out OW
  iintro ⟨⟨⟨#Hmw, %W', %hW, HO⟩, Hfl, Hs, Hx, Hg⟩, HΦ⟩
  have h := Transfers.wp_waitLocalO (defs := defs₀ (F := F)) (srcw := rBuf off inb) (dstw := oWin ooff oinb) (hsrc := hsrc) (hdst := hdst)
    (k := Prog.ret) (Q := Φ) (sem := osem b) (O := O) (W := W')
    (D := iprop(oPts d L j.val (outV I X) ∗ rPts d L I X b j))
    countersEmb 𝒱₀ (thr d L) none (default : HIx 1) (rfl : (oWin ooff oinb).view.dmaCredit = NB)
  iapply h $$ [Hfl HO]
  · isplitl [Hfl]; · iexact Hfl
    isplitl [HO]; · iexact HO
    iapply (Transfers.MayWaits.elim (SemLoc.dma (osem b))) $$ Hmw
  iintro ⟨⟨Ho, Hr⟩, Hov, HO⟩
  rw [wp_ret]; imodintro
  iapply HΦ
  isplitl [HO]
  · isplitr; · iexact Hmw
    iexists _; isplitr
    swap; · iexact HO
    ipureintro; intro p hp
    rcases Finset.mem_insert.mp hp with hp | hp; · exact .inr (hp ▸ rfl)
    exact hW p hp
  isplitr [Ho]
  swap; · iexact Ho
  unfold Idle
  isplitl [Hr]; · iexists _; iexact Hr
  isplitl [Hs]; · iexact Hs
  isplitl [Hx]; · iexact Hx
  isplitl [Hg] <;> iassumption

end Steps

end Cert.Proof.KernelIdeal

end
-- ==== Proof.KernelIdealTrip.lean ====
/-
  One trip of a tile's loop, piece by piece. The tile's fifty lists go through five row buffers in ten trips of five:
  in each trip every buffer's gather is waited for, its rows are started on their way to the result, and the buffer
  visited before it is refilled with its next list once its own copy out is done. `BS` and `B4` say which list each
  buffer holds before trip `k`, `Todo` and `Done` which blocks of the result are not yet started and which are written;
  `part1` … `part4` are the pieces the program's loop body is printed in.
-/
module

public import proofs.«01_k».proof.Proof.KernelIdealSteps

@[expose] public section

noncomputable section

namespace Cert.Proof.KernelIdeal

open Cert.KernelIdeal Cert.KernelIdeal.Gen

open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "iV" => (Memref.whole Cert.KernelIdeal.main_v1_scv : Memref Cert.KernelIdeal.sig Kind.scVector Space.hbm Cert.KernelIdeal.S50x32x512 EltTy.i32)
local notation "xV" => (Memref.whole Cert.KernelIdeal.main_v2_scv : Memref Cert.KernelIdeal.sig Kind.scVector Space.hbm Cert.KernelIdeal.S1000000x128 EltTy.f32)
local notation "oV" => (Memref.whole Cert.KernelIdeal.main_v3_scv : Memref Cert.KernelIdeal.sig Kind.scVector Space.hbm Cert.KernelIdeal.S819200x128 EltTy.f32)
local notation "sV" => (Memref.whole Cert.KernelIdeal.cc0_scratch0 : Memref Cert.KernelIdeal.sig Kind.scVector Space.vmem Cert.KernelIdeal.S50x512 EltTy.i32)
local notation "rV" => (Memref.whole Cert.KernelIdeal.cc0_scratch1 : Memref Cert.KernelIdeal.sig Kind.scVector Space.vmem Cert.KernelIdeal.S5x512x128 EltTy.f32)

local notation "𝕄" => MT nD τ sig (HIx 1) (Elt F) ℕ UU ℕ

section Tile

variable (d : Dev nD) (L : grid0.Coords) (I : S50x32x512.Idx → BitVec 32) (X : S1000000x128.Idx → F .f32) (q : PosShare TreeShare)
  (f₀ : S819200x128.Idx → F .f32) (O : CellTallies nD τ sig (HIx 1)) (W : Waits sig (HIx 1))

/-- List number `n`. -/
def jx (n : ℕ) : Fin 50 := ⟨n % 50, Nat.mod_lt _ (by decide)⟩
theorem jx_val {n : ℕ} (h : n < 50) : (jx n).val = n := Nat.mod_eq_of_lt h

/-- The blocks of the result not yet started, from block `n` on; the blocks done, below block `n`. -/
def Todo (n : ℕ) : sProp 𝕄 := bigSep (Finset.Ico n 50) fun j => oPts d L j f₀
def Done (n : ℕ) : sProp 𝕄 := bigSep (Finset.range n) fun j => oPts d L j (outV I X)

theorem todo_pop {n : ℕ} (h : n < 50) : (Todo d L f₀ n : sProp 𝕄) ⊢ iprop(oPts d L (jx n).val f₀ ∗ Todo d L f₀ (n + 1)) := by
  unfold Todo
  rw [jx_val h, ← Finset.insert_Ico_add_one_left_eq_Ico h, bigSep_insert (by simp)]
  exact .rfl
theorem done_push {n : ℕ} (h : n < 50) : iprop(oPts d L (jx n).val (outV I X) ∗ Done d L I X n) ⊢ (Done d L I X (n + 1) : sProp 𝕄) := by
  unfold Done
  rw [jx_val h, Finset.range_add_one, bigSep_insert (by simp)]
  exact .rfl

/-- Before trip `k`: buffer `b` of the first four has its list `5k + b`'s gather in flight, or, after the last trip, the
    copy out of its last; -/
def BS (b : Fin 5) (k : ℕ) : sProp 𝕄 :=
  if k < 10 then Gath d L I X q b (jx (5 * k + b.val)) else Out d L I X q b (jx (45 + b.val))
/-- the last buffer is idle, or has the copy out of the trip before in flight. -/
def B4 (k : ℕ) : sProp 𝕄 := if k = 0 then Idle d L I X q 4 else Out d L I X q 4 (jx (5 * k - 1))

theorem off5 (t : Fin k0_t1_loop.trips) (r : Fin 5) :
    k0_off5 L t (BitVec.ofNat 32 r.val) = ![512 * (32 * (jx (5 * t.val + r.val)).val + (wid L).val), 0] := by
  have ht : t.val < 10 := t.isLt
  have hr := r.isLt
  rw [k0_off5_eq, jx_val (by omega)]
  congr 1
  show _ = 512 * (32 * (5 * t.val + r.val) + (2 * (L 1).val + (L 0).val))
  omega

theorem trips_lt (t : Fin k0_t1_loop.trips) : t.val < 10 := t.isLt
theorem cond1 : ∀ t : Fin k0_t1_loop.trips, k0_cond1 t = 1#1 := by decide +kernel
theorem cond2 : ∀ t : Fin k0_t1_loop.trips, k0_cond2 t = 1#1 ↔ ¬ t.val = 0 := by decide +kernel
theorem cond3 : ∀ t : Fin k0_t1_loop.trips, k0_cond3 t = 1#1 ↔ t.val < 9 := by decide +kernel
theorem cond4 : ∀ t : Fin k0_t1_loop.trips, k0_cond4 t = 1#1 := by decide +kernel
theorem cond5 : ∀ t : Fin k0_t1_loop.trips, k0_cond5 t = 1#1 ↔ t.val < 9 := by decide +kernel
theorem cond6 : ∀ t : Fin k0_t1_loop.trips, k0_cond6 t = 1#1 := by decide +kernel
theorem cond7 : ∀ t : Fin k0_t1_loop.trips, k0_cond7 t = 1#1 ↔ t.val < 9 := by decide +kernel
theorem cond8 : ∀ t : Fin k0_t1_loop.trips, k0_cond8 t = 1#1 := by decide +kernel
theorem cond9 : ∀ t : Fin k0_t1_loop.trips, k0_cond9 t = 1#1 ↔ t.val < 9 := by decide +kernel
theorem cond10 : ∀ t : Fin k0_t1_loop.trips, k0_cond10 t = 1#1 := by decide +kernel

theorem BS_lt {b : Fin 5} {k : ℕ} (h : k < 10) : (BS d L I X q b k : sProp 𝕄) = Gath d L I X q b (jx (5 * k + b.val)) := if_pos h
theorem BS_ten {b : Fin 5} : (BS d L I X q b 10 : sProp 𝕄) = Out d L I X q b (jx (45 + b.val)) := if_neg (by decide)

theorem BS_last {b : Fin 5} {k : ℕ} (h : k = 9) : (Out d L I X q b (jx (5 * k + b.val)) : sProp 𝕄) = BS d L I X q b (k + 1) := by
  subst h; exact (BS_ten d L I X q).symm

theorem B4_succ (k : ℕ) : (Out d L I X q 4 (jx (5 * k + 4)) : sProp 𝕄) = B4 d L I X q (k + 1) :=
  (if_neg (Nat.succ_ne_zero k)).symm

variable [FloatOps F]

/-! ## The pieces of one trip -/

set_option maxHeartbeats 2000000 in
theorem part1 (hI : ∀ i, (I i).toNat < 1000000) (t : Fin k0_t1_loop.trips) (v1 w0 w1 : BitVec 32) (Φ : (Σ' (_ : BitVec 32) (_ : BitVec 32), BitVec 32) → sProp 𝕄) :
    iprop((OW d L O W ∗ BS d L I X q 0 t.val ∗ B4 d L I X q t.val ∗ Todo d L f₀ (5 * t.val) ∗ Done d L I X (min (5 * t.val - 1) 45))
        ∗ ∀ v, (OW d L O W ∗ Out d L I X q 0 (jx (5 * t.val)) ∗ Gath d L I X q 4 (jx (5 * t.val + 4)) ∗ Todo d L f₀ (5 * t.val + 1) ∗ Done d L I X (min (5 * t.val) 45)) -∗ Φ v)
      ⊢ wpT d L (k0_part1 L iV (Memref.isWhole_whole _) xV (Memref.isWhole_whole _) oV (Memref.isWhole_whole _)
          sV (Memref.isWhole_whole _) rV (Memref.isWhole_whole _) cc0_scratch2 cc0_scratch3 cc0_scoped0 v1 w0 w1 t) Φ := by
  have ht := trips_lt t
  rw [k0_part1_eq_skeleton, BS_lt d L I X q ht]
  by_cases h0 : t.val = 0
  · simp only [wpT, k0_part1_skel, dif_pos (cond1 t), dif_neg (fun h => (cond2 t).1 h h0), wp_bind, wp_pure]
    rw [show (B4 d L I X q t.val : sProp 𝕄) = Idle d L I X q 4 from if_pos h0]
    iintro ⟨⟨HW, HB0, HB4, HT, HD⟩, HΦ⟩
    iapply (gather_start d L I X q hI 4 (jx (5 * t.val + 4)) rfl (by rw [k0_off3_eq, jx_val (by omega)]) rfl)
    isplitl [HB4]; · iexact HB4
    iintro HB4
    iapply (gather_wait d L I X q O W 0 _ rfl)
    isplitl [HW HB0]; · isplitl [HW] <;> iassumption
    iintro ⟨HW, HB0⟩
    ihave HT2 := (todo_pop d L f₀ (n := 5 * t.val) (by omega)) $$ HT
    icases HT2 with ⟨Ho, HT⟩
    iapply (out_start d L I X q 0 _ f₀ rfl (off5 L t 0) rfl)
    isplitl [HB0 Ho]; · isplitl [HB0] <;> iassumption
    iintro HB0
    imodintro
    iapply HΦ
    isplitl [HW]; · iexact HW
    isplitl [HB0]; · iexact HB0
    isplitl [HB4]; · iexact HB4
    isplitl [HT]; · iexact HT
    rw [show min (5 * t.val) 45 = min (5 * t.val - 1) 45 by omega]
    iexact HD
  · simp only [wpT, k0_part1_skel, dif_pos (cond1 t), dif_pos ((cond2 t).2 h0), wp_bind, wp_pure]
    rw [show (B4 d L I X q t.val : sProp 𝕄) = Out d L I X q 4 (jx (5 * t.val - 1)) from if_neg h0,
      show min (5 * t.val - 1) 45 = 5 * t.val - 1 by omega, show min (5 * t.val) 45 = 5 * t.val - 1 + 1 by omega]
    iintro ⟨⟨HW, HB0, HB4, HT, HD⟩, HΦ⟩
    iapply (out_wait d L I X q O W 4 _ rfl)
    isplitl [HW HB4]; · isplitl [HW] <;> iassumption
    iintro ⟨HW, HB4, Ho⟩
    ihave HD := (done_push d L I X (n := 5 * t.val - 1) (by omega)) $$ [Ho HD]; · isplitl [Ho] <;> iassumption
    iapply (gather_start d L I X q hI 4 (jx (5 * t.val + 4)) rfl (by rw [k0_off3_eq, jx_val (by omega)]) rfl)
    isplitl [HB4]; · iexact HB4
    iintro HB4
    iapply (gather_wait d L I X q O W 0 _ rfl)
    isplitl [HW HB0]; · isplitl [HW] <;> iassumption
    iintro ⟨HW, HB0⟩
    ihave HT2 := (todo_pop d L f₀ (n := 5 * t.val) (by omega)) $$ HT
    icases HT2 with ⟨Ho, HT⟩
    iapply (out_start d L I X q 0 _ f₀ rfl (off5 L t 0) rfl)
    isplitl [HB0 Ho]; · isplitl [HB0] <;> iassumption
    iintro HB0
    imodintro
    iapply HΦ
    isplitl [HW]; · iexact HW
    isplitl [HB0]; · iexact HB0
    isplitl [HB4]; · iexact HB4
    isplitl [HT]; · iexact HT
    iexact HD

set_option maxHeartbeats 2000000 in
theorem part2 (hI : ∀ i, (I i).toNat < 1000000) (t : Fin k0_t1_loop.trips) (v1 v82 v108 v109 : BitVec 32) (Φ : BitVec 32 → sProp 𝕄) :
    iprop((OW d L O W ∗ Out d L I X q 0 (jx (5 * t.val)) ∗ BS d L I X q 1 t.val ∗ Todo d L f₀ (5 * t.val + 1) ∗ Done d L I X (min (5 * t.val) 45))
        ∗ ∀ v, (OW d L O W ∗ BS d L I X q 0 (t.val + 1) ∗ BS d L I X q 1 (t.val + 1) ∗ Todo d L f₀ (5 * t.val + 2) ∗ Done d L I X (min (5 * t.val + 2) 45)) -∗ Φ v)
      ⊢ wpT d L (k0_part2 L iV (Memref.isWhole_whole _) xV (Memref.isWhole_whole _) oV (Memref.isWhole_whole _)
          sV (Memref.isWhole_whole _) rV (Memref.isWhole_whole _) cc0_scratch2 cc0_scratch3 cc0_scoped0 v1 t v82 v108 v109) Φ := by
  have ht := trips_lt t
  rw [k0_part2_eq_skeleton, BS_lt d L I X q ht]
  by_cases h9 : t.val < 9
  · simp only [wpT, k0_part2_skel, dif_pos ((cond3 t).2 h9), dif_pos (cond4 t), dif_pos ((cond5 t).2 h9), dif_pos (cond6 t), wp_bind, wp_pure]
    rw [show min (5 * t.val) 45 = 5 * t.val by omega, show min (5 * t.val + 2) 45 = 5 * t.val + 1 + 1 by omega]
    iintro ⟨⟨HW, HB0, HB1, HT, HD⟩, HΦ⟩
    iapply (out_wait d L I X q O W 0 _ rfl)
    isplitl [HW HB0]; · isplitl [HW] <;> iassumption
    iintro ⟨HW, HB0, Ho⟩
    ihave HD := (done_push d L I X (n := 5 * t.val) (by omega)) $$ [Ho HD]; · isplitl [Ho] <;> iassumption
    iapply (gather_start d L I X q hI 0 (jx (5 * (t.val + 1) + 0)) rfl (by rw [k0_off7_eq, jx_val (by omega)]; congr 1) rfl)
    isplitl [HB0]; · iexact HB0
    iintro HB0
    iapply (gather_wait d L I X q O W 1 _ rfl)
    isplitl [HW HB1]; · isplitl [HW] <;> iassumption
    iintro ⟨HW, HB1⟩
    ihave HT2 := (todo_pop d L f₀ (n := 5 * t.val + 1) (by omega)) $$ HT
    icases HT2 with ⟨Ho, HT⟩
    iapply (out_start d L I X q 1 _ f₀ rfl (off5 L t 1) rfl)
    isplitl [HB1 Ho]; · isplitl [HB1] <;> iassumption
    iintro HB1
    iapply (out_wait d L I X q O W 1 _ rfl)
    isplitl [HW HB1]; · isplitl [HW] <;> iassumption
    iintro ⟨HW, HB1, Ho⟩
    ihave HD := (done_push d L I X (n := 5 * t.val + 1) (by omega)) $$ [Ho HD]; · isplitl [Ho] <;> iassumption
    iapply (gather_start d L I X q hI 1 (jx (5 * (t.val + 1) + 1)) rfl (by rw [k0_off9_eq, jx_val (by omega)]; congr 1) rfl)
    isplitl [HB1]; · iexact HB1
    iintro HB1
    imodintro
    iapply HΦ
    isplitl [HW]; · iexact HW
    isplitl [HB0]; · iapply (Entails.of_eq (BS_lt d L I X q (b := 0) (show t.val + 1 < 10 by omega)).symm) $$ HB0
    isplitl [HB1]; · iapply (Entails.of_eq (BS_lt d L I X q (b := 1) (show t.val + 1 < 10 by omega)).symm) $$ HB1
    isplitl [HT]; · iexact HT
    iexact HD
  · simp only [wpT, k0_part2_skel, dif_neg (fun h => h9 ((cond3 t).1 h)), dif_neg (fun h => h9 ((cond5 t).1 h)), wp_bind, wp_pure]
    rw [show min (5 * t.val + 2) 45 = min (5 * t.val) 45 by omega]
    iintro ⟨⟨HW, HB0, HB1, HT, HD⟩, HΦ⟩
    iapply (gather_wait d L I X q O W 1 _ rfl)
    isplitl [HW HB1]; · isplitl [HW] <;> iassumption
    iintro ⟨HW, HB1⟩
    ihave HT2 := (todo_pop d L f₀ (n := 5 * t.val + 1) (by omega)) $$ HT
    icases HT2 with ⟨Ho, HT⟩
    iapply (out_start d L I X q 1 _ f₀ rfl (off5 L t 1) rfl)
    isplitl [HB1 Ho]; · isplitl [HB1] <;> iassumption
    iintro HB1
    imodintro
    iapply HΦ
    isplitl [HW]; · iexact HW
    isplitl [HB0]; · iapply (Entails.of_eq (BS_last d L I X q (b := 0) (show t.val = 9 by omega))) $$ HB0
    isplitl [HB1]; · iapply (Entails.of_eq (BS_last d L I X q (b := 1) (show t.val = 9 by omega))) $$ HB1
    isplitl [HT]; · iexact HT
    iexact HD

set_option maxHeartbeats 2000000 in
theorem part3 (hI : ∀ i, (I i).toNat < 1000000) (t : Fin k0_t1_loop.trips) (v1 v82 v133 : BitVec 32) (Φ : BitVec 32 → sProp 𝕄) :
    iprop((OW d L O W ∗ BS d L I X q 2 t.val ∗ Todo d L f₀ (5 * t.val + 2) ∗ Done d L I X (min (5 * t.val + 2) 45))
        ∗ ∀ v, (OW d L O W ∗ BS d L I X q 2 (t.val + 1) ∗ Todo d L f₀ (5 * t.val + 3) ∗ Done d L I X (min (5 * t.val + 3) 45)) -∗ Φ v)
      ⊢ wpT d L (k0_part3 L iV (Memref.isWhole_whole _) xV (Memref.isWhole_whole _) oV (Memref.isWhole_whole _)
          sV (Memref.isWhole_whole _) rV (Memref.isWhole_whole _) cc0_scratch2 cc0_scratch3 cc0_scoped0 v1 t v82 v133) Φ := by
  have ht := trips_lt t
  rw [k0_part3_eq_skeleton, BS_lt d L I X q ht]
  by_cases h9 : t.val < 9
  · simp only [wpT, k0_part3_skel, dif_pos ((cond7 t).2 h9), dif_pos (cond8 t), wp_bind, wp_pure]
    rw [show min (5 * t.val + 2) 45 = 5 * t.val + 2 by omega, show min (5 * t.val + 3) 45 = 5 * t.val + 2 + 1 by omega]
    iintro ⟨⟨HW, HB2, HT, HD⟩, HΦ⟩
    iapply (gather_wait d L I X q O W 2 _ rfl)
    isplitl [HW HB2]; · isplitl [HW] <;> iassumption
    iintro ⟨HW, HB2⟩
    ihave HT2 := (todo_pop d L f₀ (n := 5 * t.val + 2) (by omega)) $$ HT
    icases HT2 with ⟨Ho, HT⟩
    iapply (out_start d L I X q 2 _ f₀ rfl (off5 L t 2) rfl)
    isplitl [HB2 Ho]; · isplitl [HB2] <;> iassumption
    iintro HB2
    iapply (out_wait d L I X q O W 2 _ rfl)
    isplitl [HW HB2]; · isplitl [HW] <;> iassumption
    iintro ⟨HW, HB2, Ho⟩
    ihave HD := (done_push d L I X (n := 5 * t.val + 2) (by omega)) $$ [Ho HD]; · isplitl [Ho] <;> iassumption
    iapply (gather_start d L I X q hI 2 (jx (5 * (t.val + 1) + 2)) rfl (by rw [k0_off11_eq, jx_val (by omega)]; congr 1) rfl)
    isplitl [HB2]; · iexact HB2
    iintro HB2
    imodintro
    iapply HΦ
    isplitl [HW]; · iexact HW
    isplitl [HB2]; · iapply (Entails.of_eq (BS_lt d L I X q (b := 2) (show t.val + 1 < 10 by omega)).symm) $$ HB2
    isplitl [HT]; · iexact HT
    iexact HD
  · simp only [wpT, k0_part3_skel, dif_neg (fun h => h9 ((cond7 t).1 h)), wp_bind, wp_pure]
    rw [show min (5 * t.val + 3) 45 = min (5 * t.val + 2) 45 by omega]
    iintro ⟨⟨HW, HB2, HT, HD⟩, HΦ⟩
    iapply (gather_wait d L I X q O W 2 _ rfl)
    isplitl [HW HB2]; · isplitl [HW] <;> iassumption
    iintro ⟨HW, HB2⟩
    ihave HT2 := (todo_pop d L f₀ (n := 5 * t.val + 2) (by omega)) $$ HT
    icases HT2 with ⟨Ho, HT⟩
    iapply (out_start d L I X q 2 _ f₀ rfl (off5 L t 2) rfl)
    isplitl [HB2 Ho]; · isplitl [HB2] <;> iassumption
    iintro HB2
    imodintro
    iapply HΦ
    isplitl [HW]; · iexact HW
    isplitl [HB2]; · iapply (Entails.of_eq (BS_last d L I X q (b := 2) (show t.val = 9 by omega))) $$ HB2
    isplitl [HT]; · iexact HT
    iexact HD

set_option maxHeartbeats 2000000 in
theorem part4 (hI : ∀ i, (I i).toNat < 1000000) (t : Fin k0_t1_loop.trips) (v1 v82 v158 : BitVec 32) (Φ : BitVec 32 → sProp 𝕄) :
    iprop((OW d L O W ∗ BS d L I X q 3 t.val ∗ Gath d L I X q 4 (jx (5 * t.val + 4)) ∗ Todo d L f₀ (5 * t.val + 3) ∗ Done d L I X (min (5 * t.val + 3) 45))
        ∗ ∀ v, (OW d L O W ∗ BS d L I X q 3 (t.val + 1) ∗ Full d L I X q 4 (jx (5 * t.val + 4)) ∗ Todo d L f₀ (5 * t.val + 4) ∗ Done d L I X (min (5 * t.val + 4) 45)) -∗ Φ v)
      ⊢ wpT d L (k0_part4 L iV (Memref.isWhole_whole _) xV (Memref.isWhole_whole _) oV (Memref.isWhole_whole _)
          sV (Memref.isWhole_whole _) rV (Memref.isWhole_whole _) cc0_scratch2 cc0_scratch3 cc0_scoped0 v1 t v82 v158) Φ := by
  have ht := trips_lt t
  rw [k0_part4_eq_skeleton, BS_lt d L I X q ht]
  by_cases h9 : t.val < 9
  · simp only [wpT, k0_part4_skel, dif_pos ((cond9 t).2 h9), dif_pos (cond10 t), wp_bind, wp_pure]
    rw [show min (5 * t.val + 3) 45 = 5 * t.val + 3 by omega, show min (5 * t.val + 4) 45 = 5 * t.val + 3 + 1 by omega]
    iintro ⟨⟨HW, HB3, HB4, HT, HD⟩, HΦ⟩
    iapply (gather_wait d L I X q O W 3 _ rfl)
    isplitl [HW HB3]; · isplitl [HW] <;> iassumption
    iintro ⟨HW, HB3⟩
    ihave HT2 := (todo_pop d L f₀ (n := 5 * t.val + 3) (by omega)) $$ HT
    icases HT2 with ⟨Ho, HT⟩
    iapply (out_start d L I X q 3 _ f₀ rfl (off5 L t 3) rfl)
    isplitl [HB3 Ho]; · isplitl [HB3] <;> iassumption
    iintro HB3
    iapply (out_wait d L I X q O W 3 _ rfl)
    isplitl [HW HB3]; · isplitl [HW] <;> iassumption
    iintro ⟨HW, HB3, Ho⟩
    ihave HD := (done_push d L I X (n := 5 * t.val + 3) (by omega)) $$ [Ho HD]; · isplitl [Ho] <;> iassumption
    iapply (gather_start d L I X q hI 3 (jx (5 * (t.val + 1) + 3)) rfl (by rw [k0_off13_eq, jx_val (by omega)]; congr 1) rfl)
    isplitl [HB3]; · iexact HB3
    iintro HB3
    iapply (gather_wait d L I X q O W 4 _ rfl)
    isplitl [HW HB4]; · isplitl [HW] <;> iassumption
    iintro ⟨HW, HB4⟩
    imodintro
    iapply HΦ
    isplitl [HW]; · iexact HW
    isplitl [HB3]; · iapply (Entails.of_eq (BS_lt d L I X q (b := 3) (show t.val + 1 < 10 by omega)).symm) $$ HB3
    isplitl [HB4]; · iexact HB4
    isplitl [HT]; · iexact HT
    iexact HD
  · simp only [wpT, k0_part4_skel, dif_neg (fun h => h9 ((cond9 t).1 h)), wp_bind, wp_pure]
    rw [show min (5 * t.val + 4) 45 = min (5 * t.val + 3) 45 by omega]
    iintro ⟨⟨HW, HB3, HB4, HT, HD⟩, HΦ⟩
    iapply (gather_wait d L I X q O W 3 _ rfl)
    isplitl [HW HB3]; · isplitl [HW] <;> iassumption
    iintro ⟨HW, HB3⟩
    ihave HT2 := (todo_pop d L f₀ (n := 5 * t.val + 3) (by omega)) $$ HT
    icases HT2 with ⟨Ho, HT⟩
    iapply (out_start d L I X q 3 _ f₀ rfl (off5 L t 3) rfl)
    isplitl [HB3 Ho]; · isplitl [HB3] <;> iassumption
    iintro HB3
    iapply (gather_wait d L I X q O W 4 _ rfl)
    isplitl [HW HB4]; · isplitl [HW] <;> iassumption
    iintro ⟨HW, HB4⟩
    imodintro
    iapply HΦ
    isplitl [HW]; · iexact HW
    isplitl [HB3]; · iapply (Entails.of_eq (BS_last d L I X q (b := 3) (show t.val = 9 by omega))) $$ HB3
    isplitl [HB4]; · iexact HB4
    isplitl [HT]; · iexact HT
    iexact HD

end Tile

end Cert.Proof.KernelIdeal

end
-- ==== Proof.KernelIdealTile.lean ====
/-
  One tile's run. The loop's invariant (`Inv`) says, before trip `k`, which list each buffer holds and how far the result
  is written, and `trip` that one trip keeps it; around the loop the lists' fetch and the first four gathers (`part5`,
  `part6`) and the last five copies' waits (`part6`, `part7`). `run` is the whole: from the tile's lists, its share of
  the table and its fifty blocks of the result to the same with the blocks at their final contents (`outV`).
-/
module

public import proofs.«01_k».proof.Proof.KernelIdealTrip

@[expose] public section

noncomputable section

namespace Cert.Proof.KernelIdeal

open Cert.KernelIdeal Cert.KernelIdeal.Gen

open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "iV" => (Memref.whole Cert.KernelIdeal.main_v1_scv : Memref Cert.KernelIdeal.sig Kind.scVector Space.hbm Cert.KernelIdeal.S50x32x512 EltTy.i32)
local notation "xV" => (Memref.whole Cert.KernelIdeal.main_v2_scv : Memref Cert.KernelIdeal.sig Kind.scVector Space.hbm Cert.KernelIdeal.S1000000x128 EltTy.f32)
local notation "oV" => (Memref.whole Cert.KernelIdeal.main_v3_scv : Memref Cert.KernelIdeal.sig Kind.scVector Space.hbm Cert.KernelIdeal.S819200x128 EltTy.f32)
local notation "sV" => (Memref.whole Cert.KernelIdeal.cc0_scratch0 : Memref Cert.KernelIdeal.sig Kind.scVector Space.vmem Cert.KernelIdeal.S50x512 EltTy.i32)
local notation "rV" => (Memref.whole Cert.KernelIdeal.cc0_scratch1 : Memref Cert.KernelIdeal.sig Kind.scVector Space.vmem Cert.KernelIdeal.S5x512x128 EltTy.f32)

local notation "𝕄" => MT nD τ sig (HIx 1) (Elt F) ℕ UU ℕ

section Tile

variable (d : Dev nD) (L : grid0.Coords) (I : S50x32x512.Idx → BitVec 32) (X : S1000000x128.Idx → F .f32) (q : PosShare TreeShare)
  (f₀ : S819200x128.Idx → F .f32) (O : CellTallies nD τ sig (HIx 1)) (W : Waits sig (HIx 1))

variable [FloatOps F]

/-! ## The loop -/

/-- Before trip `k`. -/
def Inv (k : ℕ) : sProp 𝕄 :=
  iprop(OW d L O W ∗ BS d L I X q 0 k ∗ BS d L I X q 1 k ∗ BS d L I X q 2 k ∗ BS d L I X q 3 k ∗ B4 d L I X q k
    ∗ Todo d L f₀ (5 * k) ∗ Done d L I X (min (5 * k - 1) 45))

set_option maxHeartbeats 2000000 in
/-- One trip. -/
theorem trip (hI : ∀ i, (I i).toNat < 1000000) (v1 : BitVec 32) (t : Fin k0_t1_loop.trips) (u : Unit) :
    Inv d L I X q f₀ O W t.val
      ⊢ wpT d L (k0_t1_body L iV (Memref.isWhole_whole _) xV (Memref.isWhole_whole _) oV (Memref.isWhole_whole _)
          sV (Memref.isWhole_whole _) rV (Memref.isWhole_whole _) cc0_scratch2 cc0_scratch3 cc0_scoped0 v1 t u) fun _ => Inv d L I X q f₀ O W (t.val + 1) := by
  have ht := trips_lt t
  unfold Inv
  simp only [wpT, k0_t1_body, wp_bind, wp_pure]
  iintro ⟨HW, HB0, HB1, HB2, HB3, HB4, HT, HD⟩
  iapply (part1 d L I X q f₀ O W hI t v1 0#32 1#32)
  isplitl [HW HB0 HB4 HT HD]
  · isplitl [HW]; · iexact HW
    isplitl [HB0]; · iexact HB0
    isplitl [HB4]; · iexact HB4
    isplitl [HT] <;> iassumption
  iintro %v ⟨HW, HB0, HB4, HT, HD⟩
  obtain ⟨v82, v108, v109⟩ := v
  iapply (part2 d L I X q f₀ O W hI t v1 v82 v108 v109)
  isplitl [HW HB0 HB1 HT HD]
  · isplitl [HW]; · iexact HW
    isplitl [HB0]; · iexact HB0
    isplitl [HB1]; · iexact HB1
    isplitl [HT] <;> iassumption
  iintro %v133 ⟨HW, HB0, HB1, HT, HD⟩
  iapply (part3 d L I X q f₀ O W hI t v1 v82 v133)
  isplitl [HW HB2 HT HD]
  · isplitl [HW]; · iexact HW
    isplitl [HB2]; · iexact HB2
    isplitl [HT] <;> iassumption
  iintro %v158 ⟨HW, HB2, HT, HD⟩
  iapply (part4 d L I X q f₀ O W hI t v1 v82 v158)
  isplitl [HW HB3 HB4 HT HD]
  · isplitl [HW]; · iexact HW
    isplitl [HB3]; · iexact HB3
    isplitl [HB4]; · iexact HB4
    isplitl [HT] <;> iassumption
  iintro %v197 ⟨HW, HB3, HB4, HT, HD⟩
  ihave HT2 := (todo_pop d L f₀ (n := 5 * t.val + 4) (by omega)) $$ HT
  icases HT2 with ⟨Ho, HT⟩
  iapply (out_start d L I X q 4 _ f₀ rfl (off5 L t 4) rfl)
  isplitl [HB4 Ho]; · isplitl [HB4] <;> iassumption
  iintro HB4
  imodintro
  isplitl [HW]; · iexact HW
  isplitl [HB0]; · iexact HB0
  isplitl [HB1]; · iexact HB1
  isplitl [HB2]; · iexact HB2
  isplitl [HB3]; · iexact HB3
  isplitl [HB4]; · iapply (Entails.of_eq (B4_succ d L I X q t.val)) $$ HB4
  isplitl [HT]; · iexact HT
  iexact HD

omit [FloatOps F] in
/-- After the last trip. -/
theorem inv_end : Inv d L I X q f₀ O W k0_t1_loop.trips
    ⊢ (iprop(OW d L O W ∗ Out d L I X q 0 (jx 45) ∗ Out d L I X q 1 (jx 46) ∗ Out d L I X q 2 (jx 47)
      ∗ Out d L I X q 3 (jx 48) ∗ Out d L I X q 4 (jx 49) ∗ Todo d L f₀ 50 ∗ Done d L I X 45) : sProp 𝕄) := by
  rw [show k0_t1_loop.trips = 10 by decide +kernel]
  unfold Inv
  rw [BS_ten, BS_ten, BS_ten, BS_ten, show (B4 d L I X q 10 : sProp 𝕄) = Out d L I X q 4 (jx 49) from if_neg (by decide)]
  exact .rfl

/-! ## The whole run -/

abbrev fVal : sProp 𝕄 := semVal (thr d L, SemLoc.dma fsem) 0
/-- The tile's lists in the index array; its list scratch at contents `f`. -/
abbrev iPts : sProp 𝕄 := iLoc d ↦[iSet (wid L).val]{fullShare} I
abbrev sPts (f : S50x512.Idx → BitVec 32) : sProp 𝕄 := sLoc d L ↦{fullShare} f
/-- What the fetch leaves of the list scratch beside the five buffers' shares. -/
abbrev sRest : sProp 𝕄 := sLoc d L ↦{shareDrop fullShare 5} listV I (wid L)
/-- Buffer `b` before the lists are fetched: idle, but for its share of the list scratch. -/
def Pre (b : Fin 5) : sProp 𝕄 :=
  iprop((∃ f, rLoc d L ↦[rSet b.val]{fullShare} f) ∗ xTok d X q b ∗ gVal d L b ∗ oVal d L b)

omit [FloatOps F] in
theorem idle_of_pre (b : Fin 5) : iprop(Pre d L X q b ∗ sTok d L I b) ⊢ (Idle d L I X q b : sProp 𝕄) := by
  unfold Pre Idle
  iintro ⟨⟨Hr, Hx, Hg, Ho⟩, Hs⟩
  isplitl [Hr]; · iexact Hr
  isplitl [Hs]; · iexact Hs
  isplitl [Hx]; · iexact Hx
  isplitl [Hg] <;> iassumption
omit [FloatOps F] in
theorem pre_of_idle (b : Fin 5) : (Idle d L I X q b : sProp 𝕄) ⊢ iprop(Pre d L X q b ∗ sTok d L I b) := by
  unfold Pre Idle
  iintro ⟨Hr, Hs, Hx, Hg, Ho⟩
  isplitr [Hs]
  · isplitl [Hr]; · iexact Hr
    isplitl [Hx]; · iexact Hx
    isplitl [Hg] <;> iassumption
  iexact Hs

omit [FloatOps F] in
theorem bigSep_five (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide),
    SparseCore.bigSep_insert' (by decide), SparseCore.bigSep_insert' (by decide), SparseCore.bigSep_insert' (by decide), bigSep_singleton]

omit [FloatOps F] in
/-- What the fetch lands in the list scratch. -/
theorem fetch_value (f : S50x512.Idx → BitVec 32) {inb} :
    (sV).view.write (Elt F) f ((iWin (k0_off1 L) inb).view.read (Elt F) I) Finset.univ = listV I (wid L) := by
  rw [View.write_whole_univ]
  funext x
  refine ((View.read_apply _ _).trans (cast_eq _ _)).trans ?_
  rw [emb_iWin (wid L) (k0_off1_eq L) x]
  rfl

set_option maxHeartbeats 2000000 in
/-- The lists' fetch, and the first two gathers. -/
theorem part5 (hI : ∀ i, (I i).toNat < 1000000) (Φ : BitVec 32 → sProp 𝕄) :
    iprop((OW d L O W ∗ iPts d L I ∗ (∃ f, sPts d L f) ∗ fVal d L ∗ Pre d L X q 0 ∗ Pre d L X q 1 ∗ Pre d L X q 2 ∗ Pre d L X q 3 ∗ Pre d L X q 4)
        ∗ ∀ v, (OW d L O W ∗ iPts d L I ∗ sRest d L I ∗ fVal d L
          ∗ Gath d L I X q 0 (jx 0) ∗ Gath d L I X q 1 (jx 1) ∗ Idle d L I X q 2 ∗ Idle d L I X q 3 ∗ Idle d L I X q 4) -∗ Φ v)
      ⊢ wpT d L (k0_part5 L iV (Memref.isWhole_whole _) xV (Memref.isWhole_whole _) oV (Memref.isWhole_whole _)
          sV (Memref.isWhole_whole _) rV (Memref.isWhole_whole _) cc0_scratch2 cc0_scratch3 cc0_scoped0) Φ := by
  rw [k0_part5_eq_skeleton]
  simp only [wpT, k0_part5_skel, wp_bind, wp_pure]
  unfold OW
  iintro ⟨⟨⟨#Hmw, %W', %hW, HO⟩, Hi, ⟨%f, Hs⟩, Hf, HB0, HB1, HB2, HB3, HB4⟩, HΦ⟩
  ihave Hi2 := (Entails.of_eq (show (iPts d L I : sProp 𝕄)
      = (iWin (k0_off1 L) (k0_off1_inb L)).view.loc (thr d L) ↦[(iWin (k0_off1 L) (k0_off1_inb L)).view.set]{fullShare} I by
        rw [set_iWin (wid L).val (k0_off1_eq L)])) $$ Hi
  iapply (Transfers.wp_dmaLocal (src := iWin (k0_off1 L) (k0_off1_inb L)) (via := .same) (dst := sV) (sm := SemLoc.dma fsem)
    (q := fullShare) (fs := I) (fd := f) (k := Prog.ret)
    countersEmb 𝒱₀ (thr d L) none (default : HIx 1) 819200 rfl (by decide) (Finset.subset_univ (sV).view.set)) $$ [Hi2 Hs Hf]
  · isplitl [Hi2]; · iexact Hi2
    isplitl [Hs]; · iexact Hs
    iexact Hf
  iintro Hfl
  rw [wp_ret]; imodintro
  iapply (Transfers.wp_waitLocalO (k := Prog.ret) countersEmb 𝒱₀ (thr d L) none (default : HIx 1) (rfl : (sV).view.dmaCredit = 819200)) $$ [Hfl HO]
  · isplitl [Hfl]; · iexact Hfl
    isplitl [HO]; · iexact HO
    iapply (Transfers.MayWaits.elim (SemLoc.dma fsem)) $$ Hmw
  iintro ⟨⟨Hs, Hi2⟩, Hf, HO⟩
  rw [wp_ret]; imodintro
  ihave Hi := (Entails.of_eq (show (iPts d L I : sProp 𝕄)
      = (iWin (k0_off1 L) (k0_off1_inb L)).view.loc (thr d L) ↦[(iWin (k0_off1 L) (k0_off1_inb L)).view.set]{fullShare} I by
        rw [set_iWin (wid L).val (k0_off1_eq L)]).symm) $$ Hi2
  ihave Hs2 := (Entails.of_eq (congrArg (fun g => (sLoc d L ↦{fullShare} g : sProp 𝕄)) (fetch_value L I f))) $$ Hs
  ihave Hs3 := (Transfers.pointsTo_toks_split fullShare 5) $$ Hs2
  icases Hs3 with ⟨Hs, Ht⟩
  ihave Ht2 := (Entails.of_eq (bigSep_five _)) $$ Ht
  icases Ht2 with ⟨H0, H1, H2, H3, H4⟩
  ihave HB0 := (idle_of_pre d L I X q 0) $$ [HB0 H0]; · isplitl [HB0] <;> iassumption
  ihave HB1 := (idle_of_pre d L I X q 1) $$ [HB1 H1]; · isplitl [HB1] <;> iassumption
  ihave HB2 := (idle_of_pre d L I X q 2) $$ [HB2 H2]; · isplitl [HB2] <;> iassumption
  ihave HB3 := (idle_of_pre d L I X q 3) $$ [HB3 H3]; · isplitl [HB3] <;> iassumption
  ihave HB4 := (idle_of_pre d L I X q 4) $$ [HB4 H4]; · isplitl [HB4] <;> iassumption
  iapply (gather_start d L I X q hI 0 (jx 0) rfl rfl rfl)
  isplitl [HB0]; · iexact HB0
  iintro HB0
  iapply (gather_start d L I X q hI 1 (jx 1) rfl rfl rfl)
  isplitl [HB1]; · iexact HB1
  iintro HB1
  imodintro
  iapply HΦ
  isplitl [HO]
  · isplitr; · iexact Hmw
    iexists _; isplitr
    swap; · iexact HO
    ipureintro; intro p hp
    rcases Finset.mem_insert.mp hp with hp | hp; · exact .inr (hp ▸ rfl)
    exact hW p hp
  isplitl [Hi]; · iexact Hi
  isplitl [Hs]; · iexact Hs
  isplitl [Hf]; · iexact Hf
  isplitl [HB0]; · iexact HB0
  isplitl [HB1]; · iexact HB1
  isplitl [HB2]; · iexact HB2
  isplitl [HB3] <;> iassumption

set_option maxHeartbeats 2000000 in
/-- The next two gathers, the ten trips, and the wait for the first buffer's last copy. -/
theorem part6 (hI : ∀ i, (I i).toNat < 1000000) (v1 : BitVec 32) (Φ : PUnit → sProp 𝕄) :
    iprop((OW d L O W ∗ Gath d L I X q 0 (jx 0) ∗ Gath d L I X q 1 (jx 1) ∗ Idle d L I X q 2 ∗ Idle d L I X q 3 ∗ Idle d L I X q 4
            ∗ Todo d L f₀ 0 ∗ Done d L I X 0)
        ∗ ((OW d L O W ∗ Idle d L I X q 0 ∗ Out d L I X q 1 (jx 46) ∗ Out d L I X q 2 (jx 47) ∗ Out d L I X q 3 (jx 48) ∗ Out d L I X q 4 (jx 49)
            ∗ Done d L I X 46) -∗ Φ ⟨⟩))
      ⊢ wpT d L (k0_part6 L iV (Memref.isWhole_whole _) xV (Memref.isWhole_whole _) oV (Memref.isWhole_whole _)
          sV (Memref.isWhole_whole _) rV (Memref.isWhole_whole _) cc0_scratch2 cc0_scratch3 cc0_scoped0 v1) Φ := by
  rw [k0_part6_eq_skeleton]
  simp only [wpT, k0_part6_skel, wp_bind, wp_pure]
  iintro ⟨⟨HW, HB0, HB1, HB2, HB3, HB4, HT, HD⟩, HΦ⟩
  iapply (gather_start d L I X q hI 2 (jx 2) rfl rfl rfl)
  isplitl [HB2]; · iexact HB2
  iintro HB2
  iapply (gather_start d L I X q hI 3 (jx 3) rfl rfl rfl)
  isplitl [HB3]; · iexact HB3
  iintro HB3
  iapply (Scf.wp_for _ _ _ _ _ _ _ _ _ (fun k (_ : Unit) => Inv d L I X q f₀ O W k) (fun t u => trip d L I X q f₀ O W hI v1 t u))
  isplitl [HW HB0 HB1 HB2 HB3 HB4 HT HD]
  · unfold Inv
    rw [BS_lt d L I X q (show 0 < 10 by decide), BS_lt d L I X q (show 0 < 10 by decide), BS_lt d L I X q (show 0 < 10 by decide),
      BS_lt d L I X q (show 0 < 10 by decide), show (B4 d L I X q 0 : sProp 𝕄) = Idle d L I X q 4 from if_pos rfl]
    isplitl [HW]; · iexact HW
    isplitl [HB0]; · iexact HB0
    isplitl [HB1]; · iexact HB1
    isplitl [HB2]; · iexact HB2
    isplitl [HB3]; · iexact HB3
    isplitl [HB4]; · iexact HB4
    isplitl [HT]; · iexact HT
    iexact HD
  iintro %u HI
  ihave HI := (inv_end d L I X q f₀ O W) $$ HI
  icases HI with ⟨HW, HB0, HB1, HB2, HB3, HB4, -, HD⟩
  iapply (out_wait d L I X q O W 0 _ rfl)
  isplitl [HW HB0]; · isplitl [HW] <;> iassumption
  iintro ⟨HW, HB0, Ho⟩
  ihave HD := (done_push d L I X (n := 45) (by decide)) $$ [Ho HD]; · isplitl [Ho] <;> iassumption
  imodintro
  iapply HΦ
  isplitl [HW]; · iexact HW
  isplitl [HB0]; · iexact HB0
  isplitl [HB1]; · iexact HB1
  isplitl [HB2]; · iexact HB2
  isplitl [HB3]; · iexact HB3
  isplitl [HB4] <;> iassumption

set_option maxHeartbeats 2000000 in
/-- The waits for the next three's. -/
theorem part7 (v1 : BitVec 32) (Φ : (Σ' (_ : BitVec 32), BitVec 32) → sProp 𝕄) :
    iprop((OW d L O W ∗ Out d L I X q 1 (jx 46) ∗ Out d L I X q 2 (jx 47) ∗ Out d L I X q 3 (jx 48) ∗ Done d L I X 46)
        ∗ ∀ v, (OW d L O W ∗ Idle d L I X q 1 ∗ Idle d L I X q 2 ∗ Idle d L I X q 3 ∗ Done d L I X 49) -∗ Φ v)
      ⊢ wpT d L (k0_part7 L iV (Memref.isWhole_whole _) xV (Memref.isWhole_whole _) oV (Memref.isWhole_whole _)
          sV (Memref.isWhole_whole _) rV (Memref.isWhole_whole _) cc0_scratch2 cc0_scratch3 cc0_scoped0 v1) Φ := by
  rw [k0_part7_eq_skeleton]
  simp only [wpT, k0_part7_skel, wp_bind, wp_pure]
  iintro ⟨⟨HW, HB1, HB2, HB3, HD⟩, HΦ⟩
  iapply (out_wait d L I X q O W 1 _ rfl)
  isplitl [HW HB1]; · isplitl [HW] <;> iassumption
  iintro ⟨HW, HB1, Ho⟩
  ihave HD := (done_push d L I X (n := 46) (by decide)) $$ [Ho HD]; · isplitl [Ho] <;> iassumption
  iapply (out_wait d L I X q O W 2 _ rfl)
  isplitl [HW HB2]; · isplitl [HW] <;> iassumption
  iintro ⟨HW, HB2, Ho⟩
  ihave HD := (done_push d L I X (n := 47) (by decide)) $$ [Ho HD]; · isplitl [Ho] <;> iassumption
  iapply (out_wait d L I X q O W 3 _ rfl)
  isplitl [HW HB3]; · isplitl [HW] <;> iassumption
  iintro ⟨HW, HB3, Ho⟩
  ihave HD := (done_push d L I X (n := 48) (by decide)) $$ [Ho HD]; · isplitl [Ho] <;> iassumption
  imodintro
  iapply HΦ
  isplitl [HW]; · iexact HW
  isplitl [HB1]; · iexact HB1
  isplitl [HB2]; · iexact HB2
  isplitl [HB3] <;> iassumption

set_option maxHeartbeats 2000000 in
/-- The run of the tile's program from the fetch to the last wait, the buffers idle before and after. -/
theorem run (hI : ∀ i, (I i).toNat < 1000000) (Φ : PUnit → sProp 𝕄) :
    iprop((OW d L O W ∗ iPts d L I ∗ (∃ f, sPts d L f) ∗ fVal d L ∗ Pre d L X q 0 ∗ Pre d L X q 1 ∗ Pre d L X q 2 ∗ Pre d L X q 3 ∗ Pre d L X q 4
            ∗ Todo d L f₀ 0 ∗ Done d L I X 0)
        ∗ ((OW d L O W ∗ iPts d L I ∗ sRest d L I ∗ fVal d L ∗ Idle d L I X q 0 ∗ Idle d L I X q 1 ∗ Idle d L I X q 2 ∗ Idle d L I X q 3
            ∗ Idle d L I X q 4 ∗ Done d L I X 50) -∗ Φ ⟨⟩))
      ⊢ wpT d L (cc0__gather L iV (Memref.isWhole_whole _) xV (Memref.isWhole_whole _) oV (Memref.isWhole_whole _)
          sV (Memref.isWhole_whole _) rV (Memref.isWhole_whole _) cc0_scratch2 cc0_scratch3 cc0_scoped0) Φ := by
  rw [cc0__gather_eq_skeleton]
  simp only [wpT, cc0__gather_skel, wp_bind, wp_pure]
  iintro ⟨⟨HW, Hi, Hs, Hf, HB0, HB1, HB2, HB3, HB4, HT, HD⟩, HΦ⟩
  iapply (part5 d L I X q O W hI)
  isplitl [HW Hi Hs Hf HB0 HB1 HB2 HB3 HB4]
  · isplitl [HW]; · iexact HW
    isplitl [Hi]; · iexact Hi
    isplitl [Hs]; · iexact Hs
    isplitl [Hf]; · iexact Hf
    isplitl [HB0]; · iexact HB0
    isplitl [HB1]; · iexact HB1
    isplitl [HB2]; · iexact HB2
    isplitl [HB3] <;> iassumption
  iintro %v1 ⟨HW, Hi, Hs, Hf, HB0, HB1, HB2, HB3, HB4⟩
  iapply (part6 d L I X q f₀ O W hI v1)
  isplitl [HW HB0 HB1 HB2 HB3 HB4 HT HD]
  · isplitl [HW]; · iexact HW
    isplitl [HB0]; · iexact HB0
    isplitl [HB1]; · iexact HB1
    isplitl [HB2]; · iexact HB2
    isplitl [HB3]; · iexact HB3
    isplitl [HB4]; · iexact HB4
    isplitl [HT] <;> iassumption
  iintro ⟨HW, HB0, HB1, HB2, HB3, HB4, HD⟩
  iapply (part7 d L I X q O W v1)
  isplitl [HW HB1 HB2 HB3 HD]
  · isplitl [HW]; · iexact HW
    isplitl [HB1]; · iexact HB1
    isplitl [HB2]; · iexact HB2
    isplitl [HB3] <;> iassumption
  iintro %v ⟨HW, HB1, HB2, HB3, HD⟩
  obtain ⟨v71, v72⟩ := v
  iapply (out_wait d L I X q O W 4 _ rfl)
  isplitl [HW HB4]; · isplitl [HW] <;> iassumption
  iintro ⟨HW, HB4, Ho⟩
  ihave HD := (done_push d L I X (n := 49) (by decide)) $$ [Ho HD]; · isplitl [Ho] <;> iassumption
  imodintro
  iapply HΦ
  isplitl [HW]; · iexact HW
  isplitl [Hi]; · iexact Hi
  isplitl [Hs]; · iexact Hs
  isplitl [Hf]; · iexact Hf
  isplitl [HB0]; · iexact HB0
  isplitl [HB1]; · iexact HB1
  isplitl [HB2]; · iexact HB2
  isplitl [HB3]; · iexact HB3
  isplitl [HB4] <;> iassumption

end Tile

end Cert.Proof.KernelIdeal

end
-- ==== Proof.KernelIdealTask.lean ====
/-
  One tile's task as the launch hands it over: its lists, its share of the table and its fifty blocks of the result,
  the tile's own scratch buffers at any contents and its semaphores at zero. The semaphores are dealt to the five row
  buffers (`ownSems0_V`), the row scratch is cut into them and put together again (`rWhole`), and the table's share is
  halved five times over; between stands the tile's run (`run`).
-/
module

public import proofs.«01_k».proof.Proof.KernelIdealTile

@[expose] public section

noncomputable section

namespace Cert.Proof.KernelIdeal

open Cert.KernelIdeal Cert.KernelIdeal.Gen

open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "iV" => (Memref.whole Cert.KernelIdeal.main_v1_scv : Memref Cert.KernelIdeal.sig Kind.scVector Space.hbm Cert.KernelIdeal.S50x32x512 EltTy.i32)
local notation "xV" => (Memref.whole Cert.KernelIdeal.main_v2_scv : Memref Cert.KernelIdeal.sig Kind.scVector Space.hbm Cert.KernelIdeal.S1000000x128 EltTy.f32)
local notation "oV" => (Memref.whole Cert.KernelIdeal.main_v3_scv : Memref Cert.KernelIdeal.sig Kind.scVector Space.hbm Cert.KernelIdeal.S819200x128 EltTy.f32)
local notation "sV" => (Memref.whole Cert.KernelIdeal.cc0_scratch0 : Memref Cert.KernelIdeal.sig Kind.scVector Space.vmem Cert.KernelIdeal.S50x512 EltTy.i32)
local notation "rV" => (Memref.whole Cert.KernelIdeal.cc0_scratch1 : Memref Cert.KernelIdeal.sig Kind.scVector Space.vmem Cert.KernelIdeal.S5x512x128 EltTy.f32)

local notation "𝕄" => MT nD τ sig (HIx 1) (Elt F) ℕ UU ℕ

section Task

variable (d : Dev nD) (L : grid0.Coords) (I : S50x32x512.Idx → BitVec 32) (X : S1000000x128.Idx → F .f32) (q : PosShare TreeShare)
  (f₀ : S819200x128.Idx → F .f32) (O : CellTallies nD τ sig (HIx 1)) (W : Waits sig (HIx 1))

/-! ## The tile's semaphores and buffers -/

/-- DMA semaphore `k` of the tile. -/
abbrev cell (k : Fin 11) : GSem nD τ sig := (thr d L, SemLoc.dma k)
theorem cell_injective : Function.Injective (cell d L) := fun _ _ e => SemLoc.dma.inj (Prod.ext_iff.mp e).2
/-- The eleven, among the tile's semaphores. -/
abbrev cells : Finset (GSem nD τ sig) := Finset.univ.map ⟨cell d L, cell_injective d L⟩
theorem cells_sub : cells d L ⊆ ownCells (thr d L) := by
  intro g hg
  obtain ⟨k, -, rfl⟩ := Finset.mem_map.mp hg
  exact mem_ownCells.mpr ⟨rfl, (show ∀ k : Fin 11, (SemLoc.dma k : SemLoc sig).isScoped .scVector = true by decide) k⟩

/-- The tile's own semaphores, the kernel's aside, at zero. -/
abbrev semsRest : sProp 𝕄 := bigSep (ownCells (thr d L) \ cells d L) fun g => semVal g 0
/-- The tile's own buffers, the kernel's two aside. -/
abbrev bufsRest : sProp 𝕄 :=
  bigSep (((ownRefs (τ := τ) (.scVector (cV L) (jV L))).erase ((Proc.scVector (cV L) (jV L)).devRef cc0_scratch0)).erase
    ((Proc.scVector (cV L) (jV L)).devRef cc0_scratch1)) fun b => iprop(∃ f, ((d, b) : Loc nD τ sig) ↦{fullShare} f)

theorem bigSep_eleven (Φ : Fin 11 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10) := by
  rw [show (Finset.univ : Finset (Fin 11)) = {0, 1, 2, 3, 4, 5, 6, 7, 8, 9, 10} by decide, SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem ownSems0_V : (ownSems0 (thr d L) : sProp 𝕄)
    = iprop((gVal d L 0 ∗ gVal d L 1 ∗ gVal d L 2 ∗ gVal d L 3 ∗ gVal d L 4 ∗ oVal d L 0 ∗ oVal d L 1 ∗ oVal d L 2 ∗ oVal d L 3
        ∗ oVal d L 4 ∗ fVal d L) ∗ semsRest d L) := by
  unfold SparseCore.Cfg.ownSems0
  rw [SparseCore.bigSep_sdiff_split' (cells_sub d L), bigSep_map, bigSep_eleven]
  rfl

theorem ownBufs_V : (ownBufs (thr d L) : sProp 𝕄)
    = iprop((∃ f, sLoc d L ↦{fullShare} f) ∗ (∃ f, rLoc d L ↦{fullShare} f) ∗ bufsRest d L) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The row scratch is its five buffers -/

theorem rSets_disjoint : ∀ b ∈ (Finset.univ : Finset (Fin 5)), ∀ b' ∈ (Finset.univ : Finset (Fin 5)), b ≠ b' →
    Disjoint (rSet b.val) (rSet b'.val) := by
  intro b _ b' _ h
  refine Finset.disjoint_left.mpr fun i hi hi' => h (Fin.ext ?_)
  exact (Finset.mem_filter.mp hi).2.symm.trans (Finset.mem_filter.mp hi').2
theorem rSets_cover : (Finset.univ : Finset (Fin 5)).biUnion (fun b => rSet b.val) = Finset.univ :=
  Finset.eq_univ_of_forall fun i => Finset.mem_biUnion.mpr ⟨i 0, Finset.mem_univ _, Finset.mem_filter.mpr ⟨Finset.mem_univ _, rfl⟩⟩

abbrev rPart (b : Fin 5) : sProp 𝕄 := iprop(∃ f : S5x512x128.Idx → F .f32, rLoc d L ↦[rSet b.val]{fullShare} f)

theorem rPart_intro (b : Fin 5) (f : S5x512x128.Idx → F .f32) : (rLoc d L ↦[rSet b.val]{fullShare} f : sProp 𝕄) ⊢ rPart d L b := by
  iintro H; iexists f; iexact H

theorem rWhole_split : (iprop(∃ f, rLoc d L ↦{fullShare} f) : sProp 𝕄)
    ⊢ iprop(rPart d L 0 ∗ rPart d L 1 ∗ rPart d L 2 ∗ rPart d L 3 ∗ rPart d L 4) := by
  rw [← bigSep_five (fun b => rPart (F := F) d L b)]
  iintro ⟨%f, H⟩
  ihave H := (Entails.of_eq (show (rLoc d L ↦{fullShare} f : sProp 𝕄) = bigSep Finset.univ fun b : Fin 5 => rLoc d L ↦[rSet b.val]{fullShare} f by
    rw [← pointsTo_biUnion Finset.univ (ℓ := rLoc d L) (fun b : Fin 5 => rSet b.val) rSets_disjoint, rSets_cover])) $$ H
  ihave H := (show (bigSep Finset.univ (fun b : Fin 5 => rLoc d L ↦[rSet b.val]{fullShare} f) : sProp 𝕄)
      ⊢ bigSep Finset.univ (fun b => rPart (F := F) d L b) from bigSep_mono fun b _ => rPart_intro d L b f) $$ H
  iexact H

theorem rWhole_join : iprop(rPart d L 0 ∗ rPart d L 1 ∗ rPart d L 2 ∗ rPart d L 3 ∗ rPart d L 4)
    ⊢ (iprop(∃ f, rLoc d L ↦{fullShare} f) : sProp 𝕄) := by
  iintro ⟨⟨%f0, H0⟩, ⟨%f1, H1⟩, ⟨%f2, H2⟩, ⟨%f3, H3⟩, ⟨%f4, H4⟩⟩
  ihave H := (Entails.of_eq (bigSep_five (fun b => (rLoc d L ↦[rSet b.val]{fullShare} (![f0, f1, f2, f3, f4] : Fin 5 → S5x512x128.Idx → F .f32) b : sProp 𝕄))).symm) $$ [H0 H1 H2 H3 H4]
  · isplitl [H0]; · iexact H0
    isplitl [H1]; · iexact H1
    isplitl [H2]; · iexact H2
    isplitl [H3]; · iexact H3
    iexact H4
  ihave H' := (pointsTo_biUnion_join (ℓ := rLoc d L) (q := fullShare) (Val := Elt F) Finset.univ (fun b : Fin 5 => rSet b.val) _ f0 rSets_disjoint) $$ H
  icases H' with ⟨%g, -, Hg⟩
  rw [rSets_cover]
  iexists g; iexact Hg

/-! ## The table's share -/

theorem xToks_split : (xLoc d ↦{q} X : sProp 𝕄)
    ⊢ iprop((xLoc d ↦{shareDrop q 5} X) ∗ xTok d X q 0 ∗ xTok d X q 1 ∗ xTok d X q 2 ∗ xTok d X q 3 ∗ xTok d X q 4) := by
  rw [← bigSep_five (fun b => xTok (F := F) d X q b)]
  exact Transfers.pointsTo_toks_split q 5
theorem xToks_join : iprop((xLoc d ↦{shareDrop q 5} X) ∗ xTok d X q 0 ∗ xTok d X q 1 ∗ xTok d X q 2 ∗ xTok d X q 3 ∗ xTok d X q 4)
    ⊢ (xLoc d ↦{q} X : sProp 𝕄) := by
  rw [← bigSep_five (fun b => xTok (F := F) d X q b)]
  exact Transfers.pointsTo_toks_join q 5
theorem sToks_join : iprop(sRest d L I ∗ sTok d L I 0 ∗ sTok d L I 1 ∗ sTok d L I 2 ∗ sTok d L I 3 ∗ sTok d L I 4)
    ⊢ (sLoc d L ↦{fullShare} listV I (wid L) : sProp 𝕄) := by
  rw [← bigSep_five (fun b => sTok (F := F) d L I b)]
  exact Transfers.pointsTo_toks_join fullShare 5

/-! ## The task -/

/-- What tile number `w` is handed: its lists, a share of the table and its blocks of the result at their old contents; -/
def Given (w : Fin 32) : sProp 𝕄 :=
  iprop((iLoc d ↦[iSet w.val]{fullShare} I) ∗ (xLoc d ↦{q} X)
    ∗ bigSep (Finset.range 50) fun j => oLoc d ↦[oSet (32 * j + w.val)]{fullShare} f₀)
/-- what it hands back: the same, its blocks at the gathered rows. -/
def Back (w : Fin 32) : sProp 𝕄 := Given d I X q (outV I X) w

variable [FloatOps F]

set_option maxHeartbeats 1000000 in
theorem tile_body (hF : (K (F := F)).Facts) (hI : ∀ i, (I i).toNat < 1000000) (hO : ∀ g, O g none = 0) :
    iprop(levAts (K (F := F)).L (K (F := F)).lev ∗ emp ∗ Given d I X q f₀ (wid L)
        ∗ scopedBufs (thr d L) ∗ scopedSems0 (thr d L) ∗ owes (thr d L) O W)
      ⊢ wp frame (wpE (defs₀ (F := F)) 𝒱₀ (thr d L) none) Set.univ
          (cc0__gather L iV (Memref.isWhole_whole _) xV (Memref.isWhole_whole _) oV (Memref.isWhole_whole _)
            sV (Memref.isWhole_whole _) rV (Memref.isWhole_whole _) cc0_scratch2 cc0_scratch3 cc0_scoped0)
          fun _ => iprop(Back d I X q (wid L) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold Back Given
  iintro ⟨#Hlv, -, ⟨Hi, Hx, Ho⟩, ⟨Hs, Hr, Hbufs⟩, ⟨⟨Hg0, Hg1, Hg2, Hg3, Hg4, Ho0, Ho1, Ho2, Ho3, Ho4, Hf⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hr := (rWhole_split d L) $$ Hr
  icases Hr with ⟨Hr0, Hr1, Hr2, Hr3, Hr4⟩
  ihave Hx := (xToks_split d X q) $$ Hx
  icases Hx with ⟨Hx, Hx0, Hx1, Hx2, Hx3, Hx4⟩
  iapply (run d L I X q f₀ O W hI)
  isplitr [Hx Hbufs Hsems]
  · isplitl [HO Hmw]
    · unfold OW; isplitl [Hmw]; · iexact Hmw
      iexists W; isplitr
      · ipureintro; exact fun p hp => .inl hp
      iexact HO
    isplitl [Hi]; · iexact Hi
    isplitl [Hs]; · iexact Hs
    isplitl [Hf]; · iexact Hf
    unfold Pre
    isplitl [Hr0 Hx0 Hg0 Ho0]
    · isplitl [Hr0]; · iexact Hr0
      isplitl [Hx0]; · iexact Hx0
      isplitl [Hg0] <;> iassumption
    isplitl [Hr1 Hx1 Hg1 Ho1]
    · isplitl [Hr1]; · iexact Hr1
      isplitl [Hx1]; · iexact Hx1
      isplitl [Hg1] <;> iassumption
    isplitl [Hr2 Hx2 Hg2 Ho2]
    · isplitl [Hr2]; · iexact Hr2
      isplitl [Hx2]; · iexact Hx2
      isplitl [Hg2] <;> iassumption
    isplitl [Hr3 Hx3 Hg3 Ho3]
    · isplitl [Hr3]; · iexact Hr3
      isplitl [Hx3]; · iexact Hx3
      isplitl [Hg3] <;> iassumption
    isplitl [Hr4 Hx4 Hg4 Ho4]
    · isplitl [Hr4]; · iexact Hr4
      isplitl [Hx4]; · iexact Hx4
      isplitl [Hg4] <;> iassumption
    isplitl [Ho]
    · unfold Todo; rw [← Finset.range_eq_Ico]; iexact Ho
    unfold Done; rw [Finset.range_zero, BI.bigSep_empty]; iempintro
  iintro ⟨HW, Hi, Hs, Hf, HB0, HB1, HB2, HB3, HB4, HD⟩
  ihave HB0 := (pre_of_idle d L I X q 0) $$ HB0
  ihave HB1 := (pre_of_idle d L I X q 1) $$ HB1
  ihave HB2 := (pre_of_idle d L I X q 2) $$ HB2
  ihave HB3 := (pre_of_idle d L I X q 3) $$ HB3
  ihave HB4 := (pre_of_idle d L I X q 4) $$ HB4
  unfold Pre
  icases HB0 with ⟨⟨Hr0, Hx0, Hg0, Ho0⟩, Hs0⟩
  icases HB1 with ⟨⟨Hr1, Hx1, Hg1, Ho1⟩, Hs1⟩
  icases HB2 with ⟨⟨Hr2, Hx2, Hg2, Ho2⟩, Hs2⟩
  icases HB3 with ⟨⟨Hr3, Hx3, Hg3, Ho3⟩, Hs3⟩
  icases HB4 with ⟨⟨Hr4, Hx4, Hg4, Ho4⟩, Hs4⟩
  isplitl [Hi Hx Hx0 Hx1 Hx2 Hx3 Hx4 HD]
  · isplitl [Hi]; · iexact Hi
    isplitl [Hx Hx0 Hx1 Hx2 Hx3 Hx4]
    · iapply (xToks_join d X q)
      isplitl [Hx]; · iexact Hx
      isplitl [Hx0]; · iexact Hx0
      isplitl [Hx1]; · iexact Hx1
      isplitl [Hx2]; · iexact Hx2
      isplitl [Hx3] <;> iassumption
    unfold Done; iexact HD
  isplitl [Hs Hs0 Hs1 Hs2 Hs3 Hs4 Hr0 Hr1 Hr2 Hr3 Hr4 Hbufs]
  · isplitl [Hs Hs0 Hs1 Hs2 Hs3 Hs4]
    · iexists (listV I (wid L))
      iapply (sToks_join (F := F) d L I)
      isplitl [Hs]; · iexact Hs
      isplitl [Hs0]; · iexact Hs0
      isplitl [Hs1]; · iexact Hs1
      isplitl [Hs2]; · iexact Hs2
      isplitl [Hs3] <;> iassumption
    isplitl [Hr0 Hr1 Hr2 Hr3 Hr4]
    · iapply (rWhole_join d L)
      isplitl [Hr0]; · iexact Hr0
      isplitl [Hr1]; · iexact Hr1
      isplitl [Hr2]; · iexact Hr2
      isplitl [Hr3] <;> iassumption
    iexact Hbufs
  isplitl [Hg0 Hg1 Hg2 Hg3 Hg4 Ho0 Ho1 Ho2 Ho3 Ho4 Hf Hsems]
  · isplitr [Hsems]
    · isplitl [Hg0]; · iexact Hg0
      isplitl [Hg1]; · iexact Hg1
      isplitl [Hg2]; · iexact Hg2
      isplitl [Hg3]; · iexact Hg3
      isplitl [Hg4]; · iexact Hg4
      isplitl [Ho0]; · iexact Ho0
      isplitl [Ho1]; · iexact Ho1
      isplitl [Ho2]; · iexact Ho2
      isplitl [Ho3]; · iexact Ho3
      isplitl [Ho4] <;> iassumption
    iexact Hsems
  unfold OW
  icases HW with ⟨-, HO⟩
  iexact HO

end Task

end Cert.Proof.KernelIdeal

end
-- ==== Proof.KernelIdealShare.lean ====
/-
  The 32 tiles' parts of the three arrays are the arrays whole (`whole_eq`): the index array cut by tile, the table's
  full share dealt to the tiles, the result cut into 1600 blocks of 512 rows of which tile `w` has every 32nd
  (block `32 j + w`). The tiles are numbered over the two SparseCores' sixteen subcores (`cores_eq`).
-/
module

public import proofs.«01_k».proof.Proof.KernelIdealTask

@[expose] public section

noncomputable section

namespace Cert.Proof.KernelIdeal

open Cert.KernelIdeal Cert.KernelIdeal.Gen

open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "iV" => (Memref.whole Cert.KernelIdeal.main_v1_scv : Memref Cert.KernelIdeal.sig Kind.scVector Space.hbm Cert.KernelIdeal.S50x32x512 EltTy.i32)
local notation "xV" => (Memref.whole Cert.KernelIdeal.main_v2_scv : Memref Cert.KernelIdeal.sig Kind.scVector Space.hbm Cert.KernelIdeal.S1000000x128 EltTy.f32)
local notation "oV" => (Memref.whole Cert.KernelIdeal.main_v3_scv : Memref Cert.KernelIdeal.sig Kind.scVector Space.hbm Cert.KernelIdeal.S819200x128 EltTy.f32)
local notation "sV" => (Memref.whole Cert.KernelIdeal.cc0_scratch0 : Memref Cert.KernelIdeal.sig Kind.scVector Space.vmem Cert.KernelIdeal.S50x512 EltTy.i32)
local notation "rV" => (Memref.whole Cert.KernelIdeal.cc0_scratch1 : Memref Cert.KernelIdeal.sig Kind.scVector Space.vmem Cert.KernelIdeal.S5x512x128 EltTy.f32)

local notation "𝕄" => MT nD τ sig (HIx 1) (Elt F) ℕ UU ℕ

section Share

variable (d : Dev nD) (I : S50x32x512.Idx → BitVec 32) (X : S1000000x128.Idx → F .f32) (f : S819200x128.Idx → F .f32)

/-- Tile `w`'s share of the table. -/
abbrev xq (w : Fin 32) : PosShare TreeShare := Transfers.dealOf fullShare Finset.univ w

/-- The result's elements of tile `w`. -/
def oTile (w : ℕ) : Finset S819200x128.Idx := Finset.univ.filter fun i => (i 0).val / 512 % 32 = w

theorem iSets_disjoint : ∀ w ∈ (Finset.univ : Finset (Fin 32)), ∀ w' ∈ (Finset.univ : Finset (Fin 32)), w ≠ w' →
    Disjoint (iSet w.val) (iSet w'.val) := by
  intro w _ w' _ h
  refine Finset.disjoint_left.mpr fun i hi hi' => h (Fin.ext ?_)
  exact (Finset.mem_filter.mp hi).2.symm.trans (Finset.mem_filter.mp hi').2
theorem iSets_cover : (Finset.univ : Finset (Fin 32)).biUnion (fun w => iSet w.val) = Finset.univ :=
  Finset.eq_univ_of_forall fun i => Finset.mem_biUnion.mpr ⟨i 1, Finset.mem_univ _, Finset.mem_filter.mpr ⟨Finset.mem_univ _, rfl⟩⟩

theorem oTiles_disjoint : ∀ w ∈ (Finset.univ : Finset (Fin 32)), ∀ w' ∈ (Finset.univ : Finset (Fin 32)), w ≠ w' →
    Disjoint (oTile w.val) (oTile w'.val) := by
  intro w _ w' _ h
  refine Finset.disjoint_left.mpr fun i hi hi' => h (Fin.ext ?_)
  exact (Finset.mem_filter.mp hi).2.symm.trans (Finset.mem_filter.mp hi').2
theorem oTiles_cover : (Finset.univ : Finset (Fin 32)).biUnion (fun w => oTile w.val) = Finset.univ :=
  Finset.eq_univ_of_forall fun i => Finset.mem_biUnion.mpr
    ⟨⟨(i 0).val / 512 % 32, Nat.mod_lt _ (by decide)⟩, Finset.mem_univ _, Finset.mem_filter.mpr ⟨Finset.mem_univ _, rfl⟩⟩

theorem oSets_disjoint (w : ℕ) : ∀ j ∈ Finset.range 50, ∀ j' ∈ Finset.range 50, j ≠ j' →
    Disjoint (oSet (32 * j + w)) (oSet (32 * j' + w)) := by
  intro j _ j' _ h
  refine Finset.disjoint_left.mpr fun i hi hi' => h ?_
  have := (Finset.mem_filter.mp hi).2.symm.trans (Finset.mem_filter.mp hi').2
  omega
theorem oSets_cover (w : Fin 32) : (Finset.range 50).biUnion (fun j => oSet (32 * j + w.val)) = oTile w.val := by
  ext i
  simp only [Finset.mem_biUnion, Finset.mem_range, oSet, oTile, Finset.mem_filter, Finset.mem_univ, true_and]
  have hw := w.isLt
  have hi : (i 0).val < 819200 := (i 0).isLt
  constructor
  · rintro ⟨j, hj, h⟩; omega
  · intro h; exact ⟨(i 0).val / 512 / 32, by omega, by omega⟩

/-- The three arrays whole are the 32 tiles' parts. -/
theorem whole_eq : (iprop((iLoc d ↦{fullShare} I) ∗ (xLoc d ↦{fullShare} X) ∗ (oLoc d ↦{fullShare} f)) : sProp 𝕄)
    = bigSep Finset.univ fun w : Fin 32 => Given d I X (xq w) f w := by
  have hi : (iLoc d ↦{fullShare} I : sProp 𝕄) = bigSep Finset.univ fun w : Fin 32 => iLoc d ↦[iSet w.val]{fullShare} I := by
    rw [← pointsTo_biUnion Finset.univ (ℓ := iLoc d) (fun w : Fin 32 => iSet w.val) iSets_disjoint, iSets_cover]
  have hx : (xLoc d ↦{fullShare} X : sProp 𝕄) = bigSep Finset.univ fun w : Fin 32 => xLoc d ↦{xq w} X :=
    Transfers.pointsTo_deal Finset.univ ⟨0, Finset.mem_univ _⟩ fullShare
  have ho : (oLoc d ↦{fullShare} f : sProp 𝕄) = bigSep Finset.univ fun w : Fin 32 =>
      bigSep (Finset.range 50) fun j => oLoc d ↦[oSet (32 * j + w.val)]{fullShare} f := by
    rw [bigSep_congr fun (w : Fin 32) _ => show (bigSep (Finset.range 50) fun j => (oLoc d ↦[oSet (32 * j + w.val)]{fullShare} f : sProp 𝕄))
        = oLoc d ↦[oTile w.val]{fullShare} f by
      rw [← pointsTo_biUnion (Finset.range 50) (ℓ := oLoc d) (fun j => oSet (32 * j + w.val)) (oSets_disjoint w.val), oSets_cover],
      ← pointsTo_biUnion Finset.univ (ℓ := oLoc d) (fun w : Fin 32 => oTile w.val) oTiles_disjoint, oTiles_cover]
  rw [hi, hx, ho, ← bigSep_sep', ← bigSep_sep']
  rfl

/-- The coordinates of SparseCore `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The number of SparseCore `c`'s subcore `s`. -/
abbrev num (c : Fin 2) (s : Fin 16) : Fin 32 := wid (coordsV c s)

/-- Every tile has one number. -/
def numEquiv : Fin 2 × Fin 16 ≃ Fin 32 where
  toFun p := num p.1 p.2
  invFun w := (⟨w.val % 2, Nat.mod_lt _ (by decide)⟩, ⟨w.val / 2, by omega⟩)
  left_inv p := by
    obtain ⟨c, s⟩ := p
    have hc := c.isLt
    refine Prod.ext (Fin.ext ?_) (Fin.ext ?_)
    · show (2 * s.val + c.val) % 2 = c.val; omega
    · show (2 * s.val + c.val) / 2 = s.val; omega
  right_inv w := Fin.ext (by show 2 * (w.val / 2) + w.val % 2 = w.val; omega)

theorem cores_eq (Φ : Fin 32 → sProp 𝕄) : bigSep Finset.univ Φ
    = bigSep Finset.univ fun c : Fin 2 => bigSep Finset.univ fun s : Fin 16 => Φ (num c s) := by
  rw [bigSep_univ_equiv numEquiv, bigSep_univ_prod]
  rfl

end Share

end Cert.Proof.KernelIdeal

end
-- ==== Proof.KernelIdealHost.lean ====
/-
  The host's operations around the call, and what the arrays hold before and after it. Before: the index array is the
  transposed indices cut in 50 x 32 lists of 512, and the table's rows are padded to 128 lanes (`Vin`). The call leaves
  the gathered rows in its result (`Vcall`); after it the host keeps the first 32 lanes, and transposes (`Vout`).
-/
module

public import proofs.«01_k».proof.Proof.KernelIdealShare

@[expose] public section

noncomputable section

namespace Cert.Proof.KernelIdeal

open Cert.KernelIdeal Cert.KernelIdeal.Gen

open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic
open Idealize.ShloMosaic.Transfers (shareTok shareDrop)

variable {F : FTy → Type}

local notation "iV" => (Memref.whole Cert.KernelIdeal.main_v1_scv : Memref Cert.KernelIdeal.sig Kind.scVector Space.hbm Cert.KernelIdeal.S50x32x512 EltTy.i32)
local notation "xV" => (Memref.whole Cert.KernelIdeal.main_v2_scv : Memref Cert.KernelIdeal.sig Kind.scVector Space.hbm Cert.KernelIdeal.S1000000x128 EltTy.f32)
local notation "oV" => (Memref.whole Cert.KernelIdeal.main_v3_scv : Memref Cert.KernelIdeal.sig Kind.scVector Space.hbm Cert.KernelIdeal.S819200x128 EltTy.f32)
local notation "sV" => (Memref.whole Cert.KernelIdeal.cc0_scratch0 : Memref Cert.KernelIdeal.sig Kind.scVector Space.vmem Cert.KernelIdeal.S50x512 EltTy.i32)
local notation "rV" => (Memref.whole Cert.KernelIdeal.cc0_scratch1 : Memref Cert.KernelIdeal.sig Kind.scVector Space.vmem Cert.KernelIdeal.S5x512x128 EltTy.f32)

local notation "𝕄" => MT nD τ sig (HIx 1) (Elt F) ℕ UU ℕ

section Host

variable [FloatOps F]
variable (m : (ℓ : Loc nD τ sig) → Buf (Elt F) ℓ) (d : Dev nD)

/-! ## The buffers and the operations -/

abbrev a' : DevRef τ sig := Proc.devRef .tc (main_arg0 : Ref sig .tc)
abbrev t' : DevRef τ sig := Proc.devRef .tc (main_arg1 : Ref sig .tc)
abbrev b0' : DevRef τ sig := Proc.devRef .tc (main_v0 : Ref sig .tc)
abbrev i' : DevRef τ sig := Proc.devRef .tc (main_v1 : Ref sig .tc)
abbrev c' : DevRef τ sig := Proc.devRef .tc (main_c : Ref sig .tc)
abbrev p' : DevRef τ sig := Proc.devRef .tc (main_call0_v0 : Ref sig .tc)
abbrev x' : DevRef τ sig := Proc.devRef .tc (main_v2 : Ref sig .tc)
abbrev o' : DevRef τ sig := Proc.devRef .tc (main_v3 : Ref sig .tc)
abbrev b4' : DevRef τ sig := Proc.devRef .tc (main_v4 : Ref sig .tc)
abbrev b5' : DevRef τ sig := Proc.devRef .tc (main_v5 : Ref sig .tc)
abbrev r' : DevRef τ sig := Proc.devRef .tc (main_v6 : Ref sig .tc)

abbrev op0 : HloOp τ sig (Elt F) := StableHlo.unary main_arg0 main_v0 ((transpose S50x16384 [1, 0] · transposes_S16384x50_S50x16384_1_0) : (⟨S16384x50, .i32⟩ : BufTy).Contents (Elt F) → (⟨S50x16384, .i32⟩ : BufTy).Contents (Elt F))
abbrev op1 : HloOp τ sig (Elt F) := StableHlo.reshape main_v0 main_v1 (rfl : (.i32 : EltTy) = .i32) shapeCasts_S50x16384_S50x32x512
abbrev op2 : HloOp τ sig (Elt F) := StableHlo.nullary main_c (constantI S_ 32 0#32)
abbrev op3 : HloOp τ sig (Elt F) := StableHlo.TRef.unary (.of main_c : StableHlo.TRef sig ⟨S_, .i32⟩) main_call0.v0 (sitofp .f32)
abbrev op4 : HloOp τ sig (Elt F) := StableHlo.TRef.binary (.of main_arg1 : StableHlo.TRef sig ⟨S1000000x32, .f32⟩) main_call0.v0 main_call0.v1
  (fun x v => pad S1000000x128 ![0, 0] ![0, 96] ![0, 0] x v pads_S1000000x32_S1000000x128_000_0960 h_S_)
abbrev op5 : HloOp τ sig (Elt F) := StableHlo.unary main_v3 main_v4 ((extractStridedSlice S819200x32 ![0, 0] · slices_S819200x128_S819200x32_0_0) : (⟨S819200x128, .f32⟩ : BufTy).Contents (Elt F) → (⟨S819200x32, .f32⟩ : BufTy).Contents (Elt F))
abbrev op6 : HloOp τ sig (Elt F) := StableHlo.reshape main_v4 main_v5 (rfl : (.f32 : EltTy) = .f32) shapeCasts_S819200x32_S50x16384x32
abbrev op7 : HloOp τ sig (Elt F) := StableHlo.unary main_v5 main_v6 ((transpose S16384x50x32 [1, 0, 2] · transposes_S50x16384x32_S16384x50x32_1_0_2) : (⟨S50x16384x32, .f32⟩ : BufTy).Contents (Elt F) → (⟨S16384x50x32, .f32⟩ : BufTy).Contents (Elt F))

/-- All the arrays of `main`; the call's three. -/
abbrev SA : Finset (DevRef τ sig) := {a', t', b0', i', c', p', x', o', b4', b5', r'}
abbrev SC : Finset (DevRef τ sig) := {i', x', o'}

theorem h0 : (op0 (F := F)).bufs ⊆ SA := show ({a', b0'} : Finset (DevRef τ sig)) ⊆ SA by decide
theorem h1 : (op1 (F := F)).bufs ⊆ SA := show ({b0', i'} : Finset (DevRef τ sig)) ⊆ SA by decide
theorem h2 : (op2 (F := F)).bufs ⊆ SA := show ({c'} : Finset (DevRef τ sig)) ⊆ SA by decide
theorem h3 : (op3 (F := F)).bufs ⊆ SA := show ({c', p'} : Finset (DevRef τ sig)) ⊆ SA by decide
theorem h4 : (op4 (F := F)).bufs ⊆ SA := show ({t', p', x'} : Finset (DevRef τ sig)) ⊆ SA by decide
theorem h5 : (op5 (F := F)).bufs ⊆ SA := show ({o', b4'} : Finset (DevRef τ sig)) ⊆ SA by decide
theorem h6 : (op6 (F := F)).bufs ⊆ SA := show ({b4', b5'} : Finset (DevRef τ sig)) ⊆ SA by decide
theorem h7 : (op7 (F := F)).bufs ⊆ SA := show ({b5', r'} : Finset (DevRef τ sig)) ⊆ SA by decide
theorem hC : SC ⊆ SA := by decide

/-! ## What they hold -/

/-- At the launch, -/
def V0 : Valuation τ sig (Elt F) := fun b => m (d, b)
/-- before the call. -/
def Vin : Valuation τ sig (Elt F) :=
  (op4 (F := F)).result ((op3 (F := F)).result ((op2 (F := F)).result ((op1 (F := F)).result ((op0 (F := F)).result (V0 m d)))))

/-- The call's operands, and its result's contents before and after. -/
def Iv : S50x32x512.Idx → BitVec 32 := Vin m d i'
def Xv : S1000000x128.Idx → F .f32 := Vin m d x'
def O₀ : S819200x128.Idx → F .f32 := Vin m d o'
def Ov : S819200x128.Idx → F .f32 := outV (Iv m d) (Xv m d)

/-- After the call, -/
def Vcall : Valuation τ sig (Elt F) := Function.update (Vin m d) o' (Ov m d)
/-- at the end. -/
def Vout : Valuation τ sig (Elt F) := (op7 (F := F)).result ((op6 (F := F)).result ((op5 (F := F)).result (Vcall m d)))

/-- The result. -/
def Rv : S16384x50x32.Idx → F .f32 := Vout m d r'

abbrev aLoc : Loc nD τ sig := (SparseCore.T d).loc main_arg0
abbrev tLoc : Loc nD τ sig := (SparseCore.T d).loc main_arg1
abbrev resLoc : Loc nD τ sig := (SparseCore.T d).loc main_v6

omit [FloatOps F] in
theorem unscoped_held : (unscopedBufs d (fun b => m ((SparseCore.T d).loc b)) : sProp 𝕄) = held (T d) SA (V0 m d) := by
  unfold unscopedBufs held
  rw [show SA = (Finset.univ.filter fun b : Ref sig .tc => ¬ b.isScoped).map ⟨Proc.devRef (τ := τ) .tc, Proc.devRef_injective _⟩ by
    rw [show (Finset.univ.filter fun b : Ref sig .tc => ¬ b.isScoped)
      = {main_arg0, main_arg1, main_v0, main_v1, main_c, main_call0_v0, main_v2, main_v3, main_v4, main_v5, main_v6} by decide]
    simp only [Finset.map_insert, Finset.map_singleton, Function.Embedding.coeFn_mk], bigSep_map]
  rfl

omit [FloatOps F] in
theorem held_SC (W : Valuation τ sig (Elt F)) : (held (T d) SC W : sProp 𝕄)
    = iprop((iLoc d ↦{fullShare} W i') ∗ (xLoc d ↦{fullShare} W x') ∗ (oLoc d ↦{fullShare} W o')) := by
  unfold held SC
  rw [SparseCore.bigSep_insert' (by decide), SparseCore.bigSep_insert' (by decide), bigSep_singleton]

theorem held_in : (held (T d) SA (Vin m d) : sProp 𝕄)
    = iprop(((iLoc d ↦{fullShare} Iv m d) ∗ (xLoc d ↦{fullShare} Xv m d) ∗ (oLoc d ↦{fullShare} O₀ m d)) ∗ held (T d) (SA \ SC) (Vin m d)) := by
  rw [held_sub_split (T d) hC, held_SC]
  rfl
theorem held_call : (held (T d) SA (Vcall m d) : sProp 𝕄)
    = iprop(((iLoc d ↦{fullShare} Iv m d) ∗ (xLoc d ↦{fullShare} Xv m d) ∗ (oLoc d ↦{fullShare} Ov m d)) ∗ held (T d) (SA \ SC) (Vin m d)) := by
  rw [held_sub_split (T d) hC, held_SC, held_congr (T d) (S := SA \ SC) (V := Vcall m d) (V' := Vin m d) (fun b hb => by
      have hne : b ≠ o' := fun e => (Finset.mem_sdiff.mp hb).2 (e.symm ▸ (by decide : o' ∈ SC))
      exact Function.update_of_ne hne _ _),
    show Vcall m d i' = Iv m d from Function.update_of_ne (show i' ≠ o' by decide) _ _,
    show Vcall m d x' = Xv m d from Function.update_of_ne (show x' ≠ o' by decide) _ _,
    show Vcall m d o' = Ov m d from Function.update_self _ _ _]

/-- The host writes neither argument. -/
theorem Vin_keep {b : DevRef τ sig} (h : b ∉ ({b0', i', c', p', x'} : Finset (DevRef τ sig))) : Vin m d b = m (d, b) := by
  simp only [Finset.mem_insert, Finset.mem_singleton, not_or] at h
  obtain ⟨hb0, hi, hc, hp, hx⟩ := h
  unfold Vin
  rw [(op4 (F := F)).result_of_not_mem _ (show b ∉ ({x'} : Finset (DevRef τ sig)) from fun e => hx (Finset.mem_singleton.mp e)),
    (op3 (F := F)).result_of_not_mem _ (show b ∉ ({p'} : Finset (DevRef τ sig)) from fun e => hp (Finset.mem_singleton.mp e)),
    (op2 (F := F)).result_of_not_mem _ (show b ∉ ({c'} : Finset (DevRef τ sig)) from fun e => hc (Finset.mem_singleton.mp e)),
    (op1 (F := F)).result_of_not_mem _ (show b ∉ ({i'} : Finset (DevRef τ sig)) from fun e => hi (Finset.mem_singleton.mp e)),
    (op0 (F := F)).result_of_not_mem _ (show b ∉ ({b0'} : Finset (DevRef τ sig)) from fun e => hb0 (Finset.mem_singleton.mp e))]
  rfl
theorem Vout_keep {b : DevRef τ sig} (h : b ∉ ({b0', i', c', p', x', o', b4', b5', r'} : Finset (DevRef τ sig))) : Vout m d b = m (d, b) := by
  have h' : b ∉ ({b0', i', c', p', x'} : Finset (DevRef τ sig)) := fun e => h (by
    simp only [Finset.mem_insert, Finset.mem_singleton] at e ⊢; tauto)
  simp only [Finset.mem_insert, Finset.mem_singleton, not_or] at h
  obtain ⟨-, -, -, -, -, ho, h4, h5, hr⟩ := h
  unfold Vout Vcall
  rw [(op7 (F := F)).result_of_not_mem _ (show b ∉ ({r'} : Finset (DevRef τ sig)) from fun e => hr (Finset.mem_singleton.mp e)),
    (op6 (F := F)).result_of_not_mem _ (show b ∉ ({b5'} : Finset (DevRef τ sig)) from fun e => h5 (Finset.mem_singleton.mp e)),
    (op5 (F := F)).result_of_not_mem _ (show b ∉ ({b4'} : Finset (DevRef τ sig)) from fun e => h4 (Finset.mem_singleton.mp e)),
    Function.update_of_ne ho, Vin_keep m d h']

end Host

end Cert.Proof.KernelIdeal

end
-- ==== Proof.KernelIdealLaunch.lean ====
/-
  The kernel's run on the machine: what the one call's handshakes carry (`P`) — to each SparseCore its sixteen tiles'
  parts of the three arrays, to each tile its own, and back with the result's blocks at the gathered rows —, the tiles'
  obligation (`tileObl`), the host program around the call (`hmain`), and the whole run (`run_main`): every run
  terminates with the arguments as they were, `main`'s result at `Rv`, and all semaphores at zero.
-/
module

public import proofs.«01_k».proof.Proof.KernelIdealHost

@[expose] public section

noncomputable section

namespace Cert.Proof.KernelIdeal

open Cert.KernelIdeal Cert.KernelIdeal.Gen

open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Tactic
open Idealize.ShloMosaic.Transfers (shareTok shareDrop)

variable {F : FTy → Type}

local notation "iV" => (Memref.whole Cert.KernelIdeal.main_v1_scv : Memref Cert.KernelIdeal.sig Kind.scVector Space.hbm Cert.KernelIdeal.S50x32x512 EltTy.i32)
local notation "xV" => (Memref.whole Cert.KernelIdeal.main_v2_scv : Memref Cert.KernelIdeal.sig Kind.scVector Space.hbm Cert.KernelIdeal.S1000000x128 EltTy.f32)
local notation "oV" => (Memref.whole Cert.KernelIdeal.main_v3_scv : Memref Cert.KernelIdeal.sig Kind.scVector Space.hbm Cert.KernelIdeal.S819200x128 EltTy.f32)
local notation "sV" => (Memref.whole Cert.KernelIdeal.cc0_scratch0 : Memref Cert.KernelIdeal.sig Kind.scVector Space.vmem Cert.KernelIdeal.S50x512 EltTy.i32)
local notation "rV" => (Memref.whole Cert.KernelIdeal.cc0_scratch1 : Memref Cert.KernelIdeal.sig Kind.scVector Space.vmem Cert.KernelIdeal.S5x512x128 EltTy.f32)

local notation "𝕄" => MT nD τ sig (HIx 1) (Elt F) ℕ UU ℕ

section Launch

variable [FloatOps F]
variable (m : (ℓ : Loc nD τ sig) → Buf (Elt F) ℓ) (ρ : Dev nD → PrngReg) (d : Dev nD)

/-! ## What the handshakes carry -/

/-- Tile number `w`'s part before and after the task. -/
def goes (w : Fin 32) : sProp 𝕄 := Given d (Iv m d) (Xv m d) (xq w) (O₀ m d) w
def comes (w : Fin 32) : sProp 𝕄 := Back d (Iv m d) (Xv m d) (xq w) w

instance given_storable (I : S50x32x512.Idx → BitVec 32) (X : S1000000x128.Idx → F .f32) (q : PosShare TreeShare)
    (f : S819200x128.Idx → F .f32) (w : Fin 32) : BI.Storable (upEmb : UEmb _ 𝕄) (Given d I X q f w) := by
  unfold Given; infer_instance

instance goes_storable (w : Fin 32) : BI.Storable (upEmb : UEmb _ 𝕄) (goes m d w) := given_storable d _ _ _ _ w
instance comes_storable (w : Fin 32) : BI.Storable (upEmb : UEmb _ 𝕄) (comes m d w) := given_storable d _ _ _ _ w

/-- A SparseCore is handed its sixteen tiles' parts and hands them back; each tile its own. -/
def P : (K (F := F)).Pay (nD := nD) (Val := Elt F) (Name := ℕ) (U := UU) where
  st := fun q d c => match q with | 0 => bigSep Finset.univ fun s : Fin 16 => goes m d (num (Fin.cast nCore_zero c) s)
  dn := fun q d c => match q with | 0 => bigSep Finset.univ fun s : Fin 16 => comes m d (num (Fin.cast nCore_zero c) s)
  go := fun q d c s => match q with | 0 => goes m d (num (Fin.cast nCore_zero c) (Fin.cast nSub_zero s))
  td := fun q d c s => match q with | 0 => comes m d (num (Fin.cast nCore_zero c) (Fin.cast nSub_zero s))
  x := fun _ _ => iprop(emp)

instance P_storable : (P (F := F) m).IsStorable where
  st q d c := match q with
    | 0 => (inferInstance : BI.Storable (upEmb : UEmb _ 𝕄) (bigSep Finset.univ fun s : Fin 16 => goes m d (num (Fin.cast nCore_zero c) s)))
  dn q d c := match q with
    | 0 => (inferInstance : BI.Storable (upEmb : UEmb _ 𝕄) (bigSep Finset.univ fun s : Fin 16 => comes m d (num (Fin.cast nCore_zero c) s)))
  go q d c s := match q with
    | 0 => goes_storable m d (num (Fin.cast nCore_zero c) (Fin.cast nSub_zero s))
  td q d c s := match q with
    | 0 => comes_storable m d (num (Fin.cast nCore_zero c) (Fin.cast nSub_zero s))

theorem P_st (c : Fin ((K (F := F)).nCore 0)) :
    (P m).st 0 d c = bigSep Finset.univ fun s : Fin 16 => goes m d (num (Fin.cast nCore_zero c) s) := rfl
theorem P_dn (c : Fin ((K (F := F)).nCore 0)) :
    (P m).dn 0 d c = bigSep Finset.univ fun s : Fin 16 => comes m d (num (Fin.cast nCore_zero c) s) := rfl
theorem P_go (c : Fin ((K (F := F)).nCore 0)) (s : Fin ((K (F := F)).nSub 0)) :
    (P m).go 0 d c s = goes m d (num (Fin.cast nCore_zero c) (Fin.cast nSub_zero s)) := rfl
theorem P_td (c : Fin ((K (F := F)).nCore 0)) (s : Fin ((K (F := F)).nSub 0)) :
    (P m).td 0 d c s = comes m d (num (Fin.cast nCore_zero c) (Fin.cast nSub_zero s)) := rfl

/-- What the proof asks of the launch memory: every word of the index array is a row of the table. -/
def PreOK : Prop := ∀ (d : Dev nD) (y : S50x32x512.Idx), (Iv m d y).toNat < 1000000

/-! ## The obligation -/

theorem defs₀_vector (c : Fin τ.nSC) (s : Fin τ.nSub) :
    defs₀ (F := F) (.scVector c s) 0 ()
      = SparseCore.onTile hcore0 hsub0 (fun c s => cc0__gather (coordsV c s)
          iV (Memref.isWhole_whole _) xV (Memref.isWhole_whole _) oV (Memref.isWhole_whole _)
          sV (Memref.isWhole_whole _) rV (Memref.isWhole_whole _) cc0_scratch2 cc0_scratch3 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (Iv m d) (Xv m d) (xq (num (Fin.cast nCore_zero c) (Fin.cast nSub_zero i)))
    (O₀ m d) O W hF (hpre d) hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  have hgo : (bigSep Finset.univ fun i : Fin ((K (F := F)).nSub 0) => (P m).go 0 d c i) = (P m).st 0 d c :=
    (bigSep_congr fun i _ => P_go m d c i).trans ((bigSep_tasks fun s => goes m d (num (Fin.cast nCore_zero c) s)).trans (P_st m d c).symm)
  have htd : (bigSep Finset.univ fun i : Fin ((K (F := F)).nSub 0) => (P m).td 0 d c i) = (P m).dn 0 d c :=
    (bigSep_congr fun i _ => P_td m d c i).trans ((bigSep_tasks fun s => comes m d (num (Fin.cast nCore_zero c) s)).trans (P_dn m d c).symm)
  rw [hgo, htd]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## `main` -/

theorem st0_eq : (bigSep Finset.univ fun c : Fin ((K (F := F)).nCore 0) => (P m).st 0 d c)
    = iprop((iLoc d ↦{fullShare} Iv m d) ∗ (xLoc d ↦{fullShare} Xv m d) ∗ (oLoc d ↦{fullShare} O₀ m d)) := by
  rw [whole_eq, cores_eq]
  exact (bigSep_congr fun c _ => P_st m d c).trans (bigSep_cores fun c => bigSep Finset.univ fun s : Fin 16 => goes m d (num c s))
theorem dn0_eq : (bigSep Finset.univ fun c : Fin ((K (F := F)).nCore 0) => (P m).dn 0 d c)
    = iprop((iLoc d ↦{fullShare} Iv m d) ∗ (xLoc d ↦{fullShare} Xv m d) ∗ (oLoc d ↦{fullShare} Ov m d)) := by
  rw [whole_eq, cores_eq]
  exact (bigSep_congr fun c _ => P_dn m d c).trans (bigSep_cores fun c => bigSep Finset.univ fun s : Fin 16 => comes m d (num c s))

/-- What the claims read at the end: both arguments as they were, the result. -/
abbrev FIN : sProp 𝕄 :=
  iprop((aLoc d ↦{fullShare} m (aLoc d)) ∗ (tLoc d ↦{fullShare} m (tLoc d)) ∗ (resLoc d ↦{fullShare} Rv m d))

theorem held_fin : (held (T d) SA (Vout m d) : sProp 𝕄) ⊢ FIN m d := by
  rw [held_sub_split (T d) (show ({a', t', r'} : Finset (DevRef τ sig)) ⊆ SA by decide)]
  refine BI.Laws.sep_elim_left.trans (Entails.of_eq ?_)
  unfold held
  rw [SparseCore.bigSep_insert' (by decide), SparseCore.bigSep_insert' (by decide), bigSep_singleton,
    Vout_keep m d (b := a') (by decide), Vout_keep m d (b := t') (by decide)]
  rfl

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := op0) (S := SA) h0 (V := V0 m d)) $$ [Hb Hheld]
  · isplitl [Hb] <;> iassumption
  iintro ⟨Hb, Hheld⟩
  rw [wp_ret]; imodintro
  iapply (wp_hlo_within 𝒱 (SparseCore.T d) none Set.univ (op := op1) (S := SA) h1) $$ [Hb Hheld]
  · isplitl [Hb] <;> iassumption
  iintro ⟨Hb, Hheld⟩
  rw [wp_ret]; imodintro
  iapply (wp_hlo_within 𝒱 (SparseCore.T d) none Set.univ (op := op2) (S := SA) h2) $$ [Hb Hheld]
  · isplitl [Hb] <;> iassumption
  iintro ⟨Hb, Hheld⟩
  rw [wp_ret]; imodintro
  iapply (wp_hlo_within 𝒱 (SparseCore.T d) none Set.univ (op := op3) (S := SA) h3) $$ [Hb Hheld]
  · isplitl [Hb] <;> iassumption
  iintro ⟨Hb, Hheld⟩
  rw [wp_ret]; imodintro
  iapply (wp_hlo_within 𝒱 (SparseCore.T d) none Set.univ (op := op4) (S := SA) h4) $$ [Hb Hheld]
  · isplitl [Hb] <;> iassumption
  iintro ⟨Hb, Hheld⟩
  rw [wp_ret]; imodintro; imodintro
  ihave Hheld := (show (held (T d) SA ((op4 (F := F)).result ((op3 (F := F)).result ((op2 (F := F)).result ((op1 (F := F)).result
    ((op0 (F := F)).result (V0 m d)))))) : sProp 𝕄) ⊢ held (T d) SA (Vin m d) from .rfl) $$ Hheld
  ihave Hh := (Entails.of_eq (held_in (F := F) m d)) $$ Hheld
  icases Hh with ⟨Hops, Hrest⟩
  iapply ((K (F := F)).wp_run (D (F := F)) 𝒱 (EH := EH) (P := P m) κ d 0) $$ [Hst Hops Hb Hrest Hts]
  isplitr; · iexact Hctx
  isplitl [Hst]; · iexact Hst
  isplitl [Hops]; · rw [st0_eq]; iexact Hops
  iintro ⟨Hst, Hdn⟩
  ihave Hops := (Entails.of_eq (dn0_eq m d)) $$ Hdn
  ihave Hheld := (Entails.of_eq (held_call (F := F) m d).symm) $$ [Hops Hrest]; · isplitl [Hops] <;> iassumption
  iapply (wp_hlo_within 𝒱 (SparseCore.T d) none Set.univ (op := op5) (S := SA) h5 (V := Vcall m d)) $$ [Hb Hheld]
  · isplitl [Hb] <;> iassumption
  iintro ⟨Hb, Hheld⟩
  rw [wp_ret]; imodintro
  iapply (wp_hlo_within 𝒱 (SparseCore.T d) none Set.univ (op := op6) (S := SA) h6) $$ [Hb Hheld]
  · isplitl [Hb] <;> iassumption
  iintro ⟨Hb, Hheld⟩
  rw [wp_ret]; imodintro
  iapply (wp_hlo_within 𝒱 (SparseCore.T d) none Set.univ (op := op7) (S := SA) h7) $$ [Hb Hheld]
  · isplitl [Hb] <;> iassumption
  iintro ⟨Hb, Hheld⟩
  rw [wp_ret]; imodintro; imodintro
  isplitl [Hst]; · iexact Hst
  isplitl [Hheld]
  · iapply (held_fin m d)
    iapply (show (held (T d) SA ((op7 (F := F)).result ((op6 (F := F)).result ((op5 (F := F)).result (Vcall m d)))) : sProp 𝕄)
      ⊢ held (T d) SA (Vout m d) from .rfl)
    iexact Hheld
  isplitl [Hb] <;> iassumption

def fq (d : Dev nD) (s' : Phys nD τ sig (Elt F)) : Prop :=
  s'.mem.mem (aLoc d) = m (aLoc d) ∧ s'.mem.mem (tLoc d) = m (tLoc d) ∧ s'.mem.mem (resLoc d) = Rv m d

set_option maxRecDepth 16384 in
theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := resLoc d) (I := Finset.univ) (q := fullShare) (f := Rv m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (aLoc c) = m (aLoc c) ∧ r.2.mem (tLoc c) = m (tLoc c) ∧ r.2.mem (resLoc c) = Rv m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Launch

end Cert.Proof.KernelIdeal

end
-- ==== Proof.KernelIdealValue.lean ====
/-
  What the arrays hold, at an index, in the two arguments: an entry of the index array that the call reads is an entry of
  the indices, a row of the padded table begins with the table's row, and the result at `(b, s, c)` is the table at the
  row that index `(b, s)` names, lane `c`.
-/
module

public import proofs.«01_k».proof.Proof.KernelIdealLaunch
public import Idealize.ShloMosaic.Lib.Pipeline.Value
public import Idealize.ShloMosaic.Lib.KernelVsHost

@[expose] public section

noncomputable section

namespace Cert.Proof.KernelIdeal

open Cert.KernelIdeal Cert.KernelIdeal.Gen

open Idealize.ShloMosaic
open Idealize.ShloMosaic.ValueIdx (ix1 ix2 ix3 eq_ix1 eq_ix2 eq_ix3)
open Idealize.SL.Sem

variable {F : FTy → Type} [FloatOps F]
variable (m : (ℓ : Loc nD τ sig) → Buf (Elt F) ℓ) (d : Dev nD)

/-- The two arguments. -/
def argX : S16384x50.Idx → BitVec 32 := m (aLoc d)
def argT : S1000000x32.Idx → F .f32 := m (tLoc d)

/-! ## Before the call -/

/-- The index array is the transposed indices, cut. -/
theorem Iv_eq : Iv m d = shapeCast S50x32x512 (transpose S50x16384 [1, 0] (argX m d) transposes_S16384x50_S50x16384_1_0)
    shapeCasts_S50x16384_S50x32x512 := by
  unfold Iv Vin
  rw [(op4 (F := F)).result_of_not_mem _ (show i' ∉ ({x'} : Finset (DevRef τ sig)) by decide),
    (op3 (F := F)).result_of_not_mem _ (show i' ∉ ({p'} : Finset (DevRef τ sig)) by decide),
    (op2 (F := F)).result_of_not_mem _ (show i' ∉ ({c'} : Finset (DevRef τ sig)) by decide),
    show (op1 (F := F)).result ((op0 (F := F)).result (V0 m d)) i' = _ from StableHlo.reshape_result _ _ _ _ _ _ _,
    show (op0 (F := F)).result (V0 m d) b0' = _ from StableHlo.unary_result _ _ _ _ _ _]
  rfl

/-- Entry `(j, w, l)` of it is index `(512 w + l, j)`. -/
theorem Iv_apply (y : S50x32x512.Idx) : Iv m d y = argX m d
    (ix2 (⟨(y 1).val * 512 + (y 2).val, by
        have h1 : (y 1).val < 32 := (y 1).isLt; have h2 : (y 2).val < 512 := (y 2).isLt; omega⟩ : Fin 16384)
      (⟨(y 0).val, (y 0).isLt⟩ : Fin 50)) := by
  have h0 : (y 0).val < 50 := (y 0).isLt
  have h1 : (y 1).val < 32 := (y 1).isLt
  have h2 : (y 2).val < 512 := (y 2).isLt
  rw [Iv_eq]
  refine (shapeCast_apply _ _ y (ix2 (⟨(y 0).val, h0⟩ : Fin 50) (⟨(y 1).val * 512 + (y 2).val, by omega⟩ : Fin 16384)) ?_).trans
    (transpose_apply _ _ _ _ _ fun b => ?_)
  · rw [Shape.rowMajor_val_two, Shape.rowMajor_val_three]
    show (y 0).val * 16384 + ((y 1).val * 512 + (y 2).val) = ((y 0).val * 32 + (y 1).val) * 512 + (y 2).val
    omega
  · match b with
    | ⟨0, _⟩ => rfl
    | ⟨1, _⟩ => rfl

/-- The table's rows, padded. -/
theorem Xv_eq : ∃ v, Xv m d = pad S1000000x128 ![0, 0] ![0, 96] ![0, 0] (argT m d) v pads_S1000000x32_S1000000x128_000_0960 h_S_ := by
  refine ⟨(op3 (F := F)).result ((op2 (F := F)).result ((op1 (F := F)).result ((op0 (F := F)).result (V0 m d)))) p', ?_⟩
  unfold Xv Vin
  rw [show (op4 (F := F)).result ((op3 (F := F)).result ((op2 (F := F)).result ((op1 (F := F)).result ((op0 (F := F)).result (V0 m d))))) x' = _
      from StableHlo.binary_result _ _ _ _ _ _ _ _]
  have e : (op3 (F := F)).result ((op2 (F := F)).result ((op1 (F := F)).result ((op0 (F := F)).result (V0 m d)))) t' = argT m d := by
    rw [(op3 (F := F)).result_of_not_mem _ (show t' ∉ ({p'} : Finset (DevRef τ sig)) by decide),
      (op2 (F := F)).result_of_not_mem _ (show t' ∉ ({c'} : Finset (DevRef τ sig)) by decide),
      (op1 (F := F)).result_of_not_mem _ (show t' ∉ ({i'} : Finset (DevRef τ sig)) by decide),
      (op0 (F := F)).result_of_not_mem _ (show t' ∉ ({b0'} : Finset (DevRef τ sig)) by decide)]
    rfl
  rw [← e]
  rfl

theorem Xv_apply (r : Fin 1000000) (c : Fin 32) : Xv m d (ix2 r (⟨c.val, by omega⟩ : Fin 128)) = argT m d (ix2 r c) := by
  obtain ⟨v, e⟩ := Xv_eq m d
  rw [e]
  refine pad_apply_of_inside _ _ _ _ _ _ _ _ _ fun a => ?_
  match a with
  | ⟨0, _⟩ => show r.val = 0 + r.val * (0 + 1); omega
  | ⟨1, _⟩ => show c.val = 0 + c.val * (0 + 1); omega

/-! ## After it -/

theorem Rv_eq : Rv m d = transpose S16384x50x32 [1, 0, 2]
    (shapeCast S50x16384x32 (extractStridedSlice S819200x32 ![0, 0] (Ov m d) slices_S819200x128_S819200x32_0_0)
      shapeCasts_S819200x32_S50x16384x32) transposes_S50x16384x32_S16384x50x32_1_0_2 := by
  unfold Rv Vout
  rw [show (op7 (F := F)).result ((op6 (F := F)).result ((op5 (F := F)).result (Vcall m d))) r' = _ from StableHlo.unary_result _ _ _ _ _ _,
    show (op6 (F := F)).result ((op5 (F := F)).result (Vcall m d)) b5' = _ from StableHlo.reshape_result _ _ _ _ _ _ _,
    show (op5 (F := F)).result (Vcall m d) b4' = _ from StableHlo.unary_result _ _ _ _ _ _,
    show Vcall m d o' = Ov m d from Function.update_self _ _ _]
  rfl

/-- The result at `(b, s, c)`: lane `c` of the table's row that index `(b, s)` names. -/
theorem Rv_apply (b : Fin 16384) (s : Fin 50) (c : Fin 32) : Rv m d (ix3 b s c) = argT m d
    (ix2 (⟨(argX m d (ix2 b s)).toNat % 1000000, Nat.mod_lt _ (by decide)⟩ : Fin 1000000) c) := by
  have hb := b.isLt
  have hs := s.isLt
  have hc := c.isLt
  rw [Rv_eq]
  refine (transpose_apply _ _ _ _ (ix3 s b c) fun a => ?_).trans ((shapeCast_apply _ _ _
    (ix2 (⟨s.val * 16384 + b.val, by omega⟩ : Fin 819200) c) ?_).trans ((extractStridedSlice_apply _ _ _ _
      (ix2 (⟨s.val * 16384 + b.val, by omega⟩ : Fin 819200) (⟨c.val, by omega⟩ : Fin 128)) fun a => ?_).trans ?_))
  · match a with
    | ⟨0, _⟩ => rfl
    | ⟨1, _⟩ => rfl
    | ⟨2, _⟩ => rfl
  · rw [Shape.rowMajor_val_two, Shape.rowMajor_val_three]
    show (s.val * 16384 + b.val) * 32 + c.val = (s.val * 16384 + b.val) * 32 + c.val
    rfl
  · match a with
    | ⟨0, _⟩ => show s.val * 16384 + b.val = 0 + (s.val * 16384 + b.val); omega
    | ⟨1, _⟩ => show c.val = 0 + c.val; omega
  · unfold Ov outV rowOf
    refine (Xv_apply m d _ c).trans ?_
    rw [Iv_apply]
    refine congrArg (argT m d) (congrArg (fun r => ix2 r c) (Fin.ext ?_))
    refine congrArg (fun i => (argX m d i).toNat % 1000000) ?_
    refine congr (congrArg ix2 (Fin.ext ?_)) (Fin.ext ?_)
    · show (s.val * 16384 + b.val) / 512 % 32 * 512 + (s.val * 16384 + b.val) % 512 = b.val
      omega
    · show (s.val * 16384 + b.val) / 16384 = s.val
      omega

/-! ## The range -/

/-- Where every index is below the table's number of rows, so is every entry that the call reads. -/
theorem preOK_of (h : ∀ d, ∀ y : S16384x50.Idx, (argX m d y).toNat < 1000000) : PreOK m := fun d y => by
  rw [Iv_apply]
  exact h d _

end Cert.Proof.KernelIdeal

end
-- ==== Proof.Reference.lean ====
/-
  The reference: its run, and its result at an index where every index is in range. There the wrap of a negative index
  takes no part, the mask of the rows in range is all ones, and the gather reads the row that the index names.
-/
module

public import proofs.«01_k».proof.Defs
public import proofs.«01_k».proof.Proof.Gen.ReferenceIdeal
public import Idealize.ShloMosaic.Lib.Claim
public import Idealize.ShloMosaic.Lib.Quiescent
public import Idealize.ShloMosaic.Lib.ReduceAll
public import Idealize.ShloMosaic.Lib.WordCmp
public import Idealize.ShloMosaic.Lib.ValueIdxCore
public import Idealize.ShloMosaic.Lib.Pipeline.Value

@[expose] public section

noncomputable section

namespace Cert.Proof.Reference

open Cert.ReferenceIdeal Cert.ReferenceIdeal.Gen

open Idealize.ShloMosaic
open Idealize.ShloMosaic.ValueIdx (ix1 ix2 ix3 eq_ix1 eq_ix2 eq_ix3)
open Idealize.SL.Sem

variable {F : FTy → Type} [FloatOps F]

/-! ## The run -/

/-- The indices with the negative ones wrapped, with a unit axis added: the rows that the gather starts at. -/
def starts (x : S16384x50.Idx → BitVec 32) : S16384x50x1.Idx → BitVec 32 :=
  broadcastInDim S16384x50x1 ![0, 1] bcast_S16384x50_S16384x50x1_0_1
    (select (cmpi .slt x (broadcastInDim S16384x50 ![] bcast_S_S16384x50 (constantI S_ 32 0#32)))
      (addi x (broadcastInDim S16384x50 ![] bcast_S_S16384x50 (constantI S_ 32 1000000#32))) x)

/-- Which of them are in range. -/
def inside (x : S16384x50.Idx → BitVec 32) : S16384x50x1.Idx → BitVec 1 :=
  andi (cmpi .sge (starts x) (broadcastInDim S16384x50x1 ![] bcast_S_S16384x50x1 (constantI S_ 32 0#32)))
    (cmpi .sle (starts x) (broadcastInDim S16384x50x1 ![0, 1, 2] bcast_S1x1x1_S16384x50x1_0_1_2
      (broadcastInDim S1x1x1 ![2] bcast_S1_S1x1x1_2 (constantI S1 32 999999#32))))

/-- The result over the indices `x` and the table `t`. -/
def out (x : S16384x50.Idx → BitVec 32) (t : S1000000x32.Idx → F .f32) : S16384x50x32.Idx → F .f32 :=
  select (broadcastInDim S16384x50x32 ![0, 1] bcast_S16384x50_S16384x50x32_0_1
      (Host.reduce IntOp.andi (inside x) (constantI S_ 1 1#1) reducesTo_S16384x50x1_S16384x50_d2 h_S_))
    (Host.gather gather_S1000000x32_S16384x50x1_S16384x50x32_2_0_n_n_0_2_132 t (starts x))
    (broadcastInDim S16384x50x32 ![] bcast_S_S16384x50x32 (constant S_ .f32 0x7FC00000#32))

theorem run_main (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v0) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  unfold main fn_take.body fn_where.body
  hlo_run
  simp -implicitDefEqProofs only [StableHlo.TRef.toBuf, StableHlo.TRef.ofBuf, cast_cast, cast_eq]
  unfold out inside starts
  rfl

/-- The arguments end as they began, and there is no semaphore. -/
theorem frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run_main m g) fun r h => ⟨fun c => (h c).2, sem_eq_zero_of_no_sems (by decide) r.2⟩

/-! ## The gather, read at an index -/

/-- Rows of the table, one index each: entry `(b, s, c)` is the row that `(b, s, 0)` names, read signed and clamped. -/
theorem gather_apply {α : Type} (t : S1000000x32.Idx → α) (idx : S16384x50x1.Idx → BitVec 32) (b : Fin 16384) (s : Fin 50) (c : Fin 32) :
    Host.gather gather_S1000000x32_S16384x50x1_S16384x50x32_2_0_n_n_0_2_132 t idx (ix3 b s c)
      = t (ix2 (⟨min (idx (ix3 b s (0 : Fin 1))).toInt.toNat 999999, by omega⟩ : Fin 1000000) c) := by
  unfold Host.gather
  refine congrArg t (funext fun a => Fin.ext ?_)
  match a with
  | ⟨0, _⟩ =>
    show GatherDims.start _ (ix3 b s c) idx 0 + GatherDims.batchCoord _ (ix3 b s c) 0 + GatherDims.offCoord _ (ix3 b s c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000000x32_S16384x50x1_S16384x50x32_2_0_n_n_0_2_132.startIndexMap from List.mem_singleton.mpr rfl)]
    have hsi : gather_S1000000x32_S16384x50x1_S16384x50x32_2_0_n_n_0_2_132.siIdx (ix3 b s c)
        ⟨List.idxOf (0 : Fin 2) gather_S1000000x32_S16384x50x1_S16384x50x32_2_0_n_n_0_2_132.startIndexMap,
          List.idxOf_lt_length_iff.2 (List.mem_singleton.mpr rfl)⟩ = ix3 b s (0 : Fin 1) := by
      funext b'
      refine Fin.ext ?_
      match b' with
      | ⟨0, _⟩ => rfl
      | ⟨1, _⟩ => rfl
      | ⟨2, _⟩ => rfl
    rw [hsi]
    rfl
  | ⟨1, _⟩ =>
    show GatherDims.start _ (ix3 b s c) idx 1 + GatherDims.batchCoord _ (ix3 b s c) 1 + GatherDims.offCoord _ (ix3 b s c) 1 = c.val
    rw [GatherDims.batchCoord_eq_zero _ _ _ List.not_mem_nil]
    unfold GatherDims.start
    rw [dif_neg (show (1 : Fin 2) ∉ gather_S1000000x32_S16384x50x1_S16384x50x32_2_0_n_n_0_2_132.startIndexMap from
      fun h => absurd (List.mem_singleton.mp h) (by decide))]
    rw [Nat.add_zero, Nat.zero_add]
    rfl

/-! ## The result, where the indices are in range -/

section Range

variable (x : S16384x50.Idx → BitVec 32) (t : S1000000x32.Idx → F .f32) (h : ∀ y, (x y).toNat < 1000000)
include h

/-- No index is negative, so none is wrapped. -/
theorem starts_apply (y : S16384x50x1.Idx) : starts x y
    = x (ix2 (⟨(y 0).val, (y 0).isLt⟩ : Fin 16384) (⟨(y 1).val, (y 1).isLt⟩ : Fin 50)) := by
  unfold starts
  refine (broadcastInDim_apply _ _ _ y (ix2 (⟨(y 0).val, (y 0).isLt⟩ : Fin 16384) (⟨(y 1).val, (y 1).isLt⟩ : Fin 50)) fun a => ?_).trans ?_
  · match a with
    | ⟨0, _⟩ => rfl
    | ⟨1, _⟩ => rfl
  · have hk := h (ix2 (⟨(y 0).val, (y 0).isLt⟩ : Fin 16384) (⟨(y 1).val, (y 1).isLt⟩ : Fin 50))
    rw [ValueIdx.select_apply, show ∀ k, cmpi .slt x (broadcastInDim S16384x50 ![] bcast_S_S16384x50 (constantI S_ 32 0#32)) k
      = IntOp.cmpi .slt (x k) 0#32 from fun _ => rfl]
    rw [WordCmp.cmpi_slt_zero, WordCmp.select_decide, if_neg (by omega)]

/-- Every one is in range. -/
theorem inside_apply (y : S16384x50x1.Idx) : inside x y = 1#1 := by
  have e := starts_apply x h y
  have hk := h (ix2 (⟨(y 0).val, (y 0).isLt⟩ : Fin 16384) (⟨(y 1).val, (y 1).isLt⟩ : Fin 50))
  rw [← e] at hk
  refine IntOp.andi_eq_one.2 ⟨?_, ?_⟩
  · show IntOp.cmpi .sge (starts x y) 0#32 = 1#1
    rw [WordCmp.cmpi_sge_zero, WordCmp.ofBool_decide_eq_one_iff]
    omega
  · show IntOp.cmpi .sle (starts x y) 999999#32 = 1#1
    rw [WordCmp.cmpi_sle_of_lt (by omega) (by decide), WordCmp.ofBool_decide_eq_one_iff]
    show (starts x y).toNat ≤ 999999
    omega

/-- The result at `(b, s, c)`: lane `c` of the table's row that index `(b, s)` names. -/
theorem out_apply (b : Fin 16384) (s : Fin 50) (c : Fin 32) : out x t (ix3 b s c)
    = t (ix2 (⟨(x (ix2 b s)).toNat % 1000000, Nat.mod_lt _ (by decide)⟩ : Fin 1000000) c) := by
  have hm : broadcastInDim S16384x50x32 ![0, 1] bcast_S16384x50_S16384x50x32_0_1
      (Host.reduce IntOp.andi (inside x) (constantI S_ 1 1#1) reducesTo_S16384x50x1_S16384x50_d2 h_S_) (ix3 b s c) = 1#1 := by
    unfold broadcastInDim
    exact Host.reduce_andi_one _ _ _ _ _ rfl (inside_apply x h)
  unfold out
  rw [ValueIdx.select_apply, hm, show ∀ a b : F .f32, Scalar.select 1#1 a b = a from fun _ _ => rfl]
  rw [gather_apply]
  have e : starts x (ix3 b s (0 : Fin 1)) = x (ix2 b s) := starts_apply x h _
  have hk := h (ix2 b s)
  refine congrArg t (congrArg (fun r => ix2 r c) (Fin.ext ?_))
  show min (starts x (ix3 b s (0 : Fin 1))).toInt.toNat 999999 = (x (ix2 b s)).toNat % 1000000
  rw [e, WordCmp.toInt_eq_toNat_of_lt_half (by omega), Nat.mod_eq_of_lt hk]
  omega

end Range

end Cert.Proof.Reference

end
-- ==== Proof.Range.lean ====
/-
  The claims' precondition in numbers: where it holds, every index names a row of the table.
-/
module

public import proofs.«01_k».proof.Defs
public import Idealize.ShloMosaic.Lib.ReduceAll
public import Idealize.ShloMosaic.Lib.WordCmp

@[expose] public section

noncomputable section

namespace Cert.Proof

open Idealize.ShloMosaic

variable {F : FTy → Type} [FloatOps F]

instance : Subsingleton Cert.Pre_in_range.S_.Idx := ⟨fun _ _ => funext fun a => a.elim0⟩

theorem range_of_pre [Cert.Pre_in_range.Facts] {x : IVec Cert.Pre_in_range.S16384x50 32} {t : FVec F Cert.Pre_in_range.S1000000x32 .f32}
    (h : Cert.Pre_in_range.fn x t = fun _ => 1#1) (y : Cert.Pre_in_range.S16384x50.Idx) : (x y).toNat < 1000000 := by
  have e := congrFun h (fun a => a.elim0)
  obtain ⟨e0, e1⟩ := IntOp.andi_eq_one.1 e
  have h0 : IntOp.cmpi .sge (x y) 0#32 = 1#1 := Host.reduce_andi_all _ _ _ _ _ e0 y
  have h1 : IntOp.cmpi .slt (x y) 1000000#32 = 1#1 := Host.reduce_andi_all _ _ _ _ _ e1 y
  rw [WordCmp.cmpi_sge_zero, WordCmp.ofBool_decide_eq_one_iff] at h0
  rw [WordCmp.cmpi_slt_of_lt h0 (by decide), WordCmp.ofBool_decide_eq_one_iff] at h1
  exact h1

end Cert.Proof

end
-- ==== Proof.lean ====
/-
  The proof of `Cert.Claim` (proofs.«01_k».proof.Defs): the kernel, as printed and at exact arithmetic, runs and leaves its
  arguments and the semaphore counters as they were; so does the reference; and at exact arithmetic the kernel's result is
  the reference's at every index, for every table and all indices in range.

  The kernel's run is Proof/KernelIdealLaunch.lean (`run_main`) and, for the program as printed, Proof/KernelLaunch.lean: the
  same text in the two namespaces, generic in the float values. Its result at an index is Proof/KernelIdealValue.lean
  (`Rv_apply`); the reference's is Proof/Reference.lean (`out_apply`). Proof/Range.lean reads the precondition.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.KernelValue
public import proofs.«01_k».proof.Proof.KernelIdealValue
public import proofs.«01_k».proof.Proof.Reference
public import proofs.«01_k».proof.Proof.Range

@[expose] public section

noncomputable section

namespace Cert.Proof

open Idealize.ShloMosaic Idealize.SL.Sem
open Idealize.ShloMosaic.ValueIdx (ix1 ix2 ix3 eq_ix1 eq_ix2 eq_ix3)

/-- The kernel as printed runs, and leaves its arguments and the counters as they were. -/
theorem frame_kernel : Cert.quiescent_Kernel := fun m g hpre =>
  (θ_run Cert.Kernel.defs _ _).mono (fun _ h => ⟨fun c => ⟨(h.1 c).1, (h.1 c).2.1⟩, h.2⟩)
    (Kernel.run_main (F := Bits) m g (Kernel.preOK_of m fun d => range_of_pre (hpre d)))

/-- So does the kernel at exact arithmetic. -/
theorem frame_kernelIdeal : Cert.quiescent_KernelIdeal := fun m g hpre =>
  (θ_run Cert.KernelIdeal.defs _ _).mono (fun _ h => ⟨fun c => ⟨(h.1 c).1, (h.1 c).2.1⟩, h.2⟩)
    (KernelIdeal.run_main (F := Ideal) m g (KernelIdeal.preOK_of m fun d => range_of_pre (hpre d)))

/-- The two programs' results are one array: at every index, the table's entry at the row that the index names. -/
theorem result_eq (m : (ℓ : Loc Cert.KernelIdeal.nD Cert.KernelIdeal.τ Cert.KernelIdeal.sig) → Buf (Elt Ideal) ℓ)
    (hpre : Cert.Pre_KernelIdeal m) (d : Dev Cert.KernelIdeal.nD) :
    Reference.out (F := Ideal) (KernelIdeal.argX m d) (KernelIdeal.argT m d) = KernelIdeal.Rv m d := by
  funext y
  obtain ⟨b, s, c, rfl⟩ : ∃ (b : Fin 16384) (s : Fin 50) (c : Fin 32), y = ix3 b s c := ⟨y 0, y 1, y 2, eq_ix3 y⟩
  exact (Reference.out_apply _ _ (range_of_pre (hpre d)) b s c).trans (KernelIdeal.Rv_apply m d b s c).symm

theorem algebraic : Cert.algebraic_KernelIdeal_ReferenceIdeal := by
  intro m g m' g' hpre hagree
  refine ⟨fun c => KernelIdeal.Rv m c, (θ_run Cert.KernelIdeal.defs _ _).mono (fun _ h c => ⟨(h.1 c).2.2, (h.1 c).1, (h.1 c).2.1⟩)
    (KernelIdeal.run_main (F := Ideal) m g (KernelIdeal.preOK_of m fun d => range_of_pre (hpre d))), ?_⟩
  refine θ_run_mono (Reference.run_main (F := Ideal) m' g') fun r h c => ⟨(h c).1.trans ?_, (h c).2⟩
  rw [(hagree c).1, (hagree c).2]
  exact result_eq m hpre c

theorem claim : Cert.Claim := ⟨Cert.Kernel.Gen.facts, Cert.KernelIdeal.Gen.facts, Cert.ReferenceIdeal.Gen.facts, Cert.Pre_in_range.Gen.facts,
  frame_kernel, frame_kernelIdeal, fun m g _ => Reference.frame m g, fun m g _ => Reference.frame m g, trivial, algebraic⟩

end Cert.Proof

end
